-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x4608 : Shape := ⟨3, ![3, 4096, 4608]⟩
abbrev S4608x9216 : Shape := ⟨2, ![4608, 9216]⟩
abbrev S9216 : Shape := ⟨1, ![9216]⟩
abbrev S12288x4608 : Shape := ⟨2, ![12288, 4608]⟩
abbrev S1x9216 : Shape := ⟨2, ![1, 9216]⟩
abbrev S12288x1 : Shape := ⟨2, ![12288, 1]⟩
abbrev S512x4608 : Shape := ⟨2, ![512, 4608]⟩
abbrev S4608x512 : Shape := ⟨2, ![4608, 512]⟩
abbrev S1x512 : Shape := ⟨2, ![1, 512]⟩
abbrev S512x1 : Shape := ⟨2, ![512, 1]⟩
abbrev S512 : Shape := ⟨1, ![512]⟩
abbrev S1x256 : Shape := ⟨2, ![1, 256]⟩
abbrev S512x256 : Shape := ⟨2, ![512, 256]⟩
abbrev S512x512 : Shape := ⟨2, ![512, 512]⟩

abbrev nBuf : Space → Nat
  | .hbm => 9
  | .vmem => 20
  | .smem => 0
  | _ => 0

abbrev bufTy : (tb : Table) → Fin (tcTables nBuf tb) → BufTy
  | .hbm, ⟨0, _⟩ => ⟨S3x4096x4608, .bf16⟩
  | .hbm, ⟨1, _⟩ => ⟨S4608x9216, .fp8e4m3⟩
  | .hbm, ⟨2, _⟩ => ⟨S9216, .f32⟩
  | .hbm, ⟨3, _⟩ => ⟨S12288x4608, .bf16⟩
  | .hbm, ⟨4, _⟩ => ⟨S1x9216, .f32⟩
  | .hbm, ⟨5, _⟩ => ⟨S12288x1, .f32⟩
  | .hbm, ⟨6, _⟩ => ⟨S12288x4608, .fp8e4m3⟩
  | .hbm, ⟨7, _⟩ => ⟨S12288x4608, .fp8e4m3⟩
  | .hbm, ⟨8, _⟩ => ⟨S12288x1, .f32⟩
  | .local _ .vmem, ⟨0, _⟩ => ⟨S512x4608, .bf16⟩
  | .local _ .vmem, ⟨1, _⟩ => ⟨S512x4608, .bf16⟩
  | .local _ .vmem, ⟨2, _⟩ => ⟨S4608x512, .fp8e4m3⟩
  | .local _ .vmem, ⟨3, _⟩ => ⟨S4608x512, .fp8e4m3⟩
  | .local _ .vmem, ⟨4, _⟩ => ⟨S4608x512, .fp8e4m3⟩
  | .local _ .vmem, ⟨5, _⟩ => ⟨S4608x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S512x4608, .fp8e4m3⟩
  | .local _ .vmem, ⟨13, _⟩ => ⟨S512x4608, .fp8e4m3⟩
  | .local _ .vmem, ⟨14, _⟩ => ⟨S512x4608, .fp8e4m3⟩
  | .local _ .vmem, ⟨15, _⟩ => ⟨S512x4608, .fp8e4m3⟩
  | .local _ .vmem, ⟨16, _⟩ => ⟨S512x1, .f32⟩
  | .local _ .vmem, ⟨17, _⟩ => ⟨S512x1, .f32⟩
  | .local _ .vmem, ⟨18, _⟩ => ⟨S512x4608, .f32⟩
  | .local _ .vmem, ⟨19, _⟩ => ⟨S512x1, .f32⟩
  | _, _ => ⟨S3x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![24, 9], ![false, false]⟩

def k0_off1 (i : grid0.Coords) : Fin 2 → Nat :=
  let c0_13 : Index := 0#32
  let arg1 : BitVec 32 := BitVec.ofNat 32 (i 1).val
  let c512_i32 : BitVec 32 := 512#32
  let v26 : BitVec 32 := Scalar.muli arg1 c512_i32
  let v27 : Index := Scalar.indexCast v26
  ![0, v27.toNat]
def k0_cond2 (i : grid0.Coords) : BitVec 1 :=
  let arg1 : BitVec 32 := BitVec.ofNat 32 (i 1).val
  let c8_i32 : BitVec 32 := 8#32
  let v39 : BitVec 1 := Scalar.cmpi .eq arg1 c8_i32
  let v40 : BitVec 32 := Scalar.extui v39
  let c0_i32_19 : BitVec 32 := 0#32
  let v41 : BitVec 1 := Scalar.cmpi .ne v40 c0_i32_19
  v41

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4608x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4608x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x4608 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4608 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S3x4096x4608 : Shape := ⟨3, ![3, 4096, 4608]⟩
abbrev S4608x9216 : Shape := ⟨2, ![4608, 9216]⟩
abbrev S9216 : Shape := ⟨1, ![9216]⟩
abbrev S12288x4608 : Shape := ⟨2, ![12288, 4608]⟩
abbrev S1x9216 : Shape := ⟨2, ![1, 9216]⟩
abbrev S12288x1 : Shape := ⟨2, ![12288, 1]⟩
abbrev S12288 : Shape := ⟨1, ![12288]⟩
abbrev S12288x9216 : Shape := ⟨2, ![12288, 9216]⟩

abbrev nBuf : Space → Nat
  | .hbm => 9
  | .vmem => 7
  | .smem => 0
  | _ => 0

abbrev bufTy : (tb : Table) → Fin (tcTables nBuf tb) → BufTy
  | .hbm, ⟨0, _⟩ => ⟨S3x4096x4608, .bf16⟩
  | .hbm, ⟨1, _⟩ => ⟨S4608x9216, .fp8e4m3⟩
  | .hbm, ⟨2, _⟩ => ⟨S9216, .f32⟩
  | .hbm, ⟨3, _⟩ => ⟨S12288x4608, .bf16⟩
  | .hbm, ⟨4, _⟩ => ⟨S1x9216, .f32⟩
  | .hbm, ⟨5, _⟩ => ⟨S12288x1, .f32⟩
  | .hbm, ⟨6, _⟩ => ⟨S12288x4608, .fp8e4m3⟩
  | .hbm, ⟨7, _⟩ => ⟨S12288x4608, .fp8e4m3⟩
  | .hbm, ⟨8, _⟩ => ⟨S12288x1, .f32⟩
  | .local _ .vmem, ⟨0, _⟩ => ⟨S12288x4608, .bf16⟩
  | .local _ .vmem, ⟨1, _⟩ => ⟨S4608x9216, .fp8e4m3⟩
  | .local _ .vmem, ⟨2, _⟩ => ⟨S1x9216, .f32⟩
  | .local _ .vmem, ⟨3, _⟩ => ⟨S12288x1, .f32⟩
  | .local _ .vmem, ⟨4, _⟩ => ⟨S12288x4608, .fp8e4m3⟩
  | .local _ .vmem, ⟨5, _⟩ => ⟨S12288x4608, .fp8e4m3⟩
  | .local _ .vmem, ⟨6, _⟩ => ⟨S12288x1, .f32⟩
  | _, _ => ⟨S3x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Buffers.lean ====
module

public import Idealize.ShloMosaic.Lib.Pipeline.FrameBody
public import Idealize.ShloMosaic.Lib.Pipeline.Value
public import Idealize.ShloMosaic.Lib.ValueIdx

/-! Three facts on what loads and stores of a buffer do: a load of the whole buffer, a store over the whole buffer,
and a store over a range of its columns. -/

@[expose] public section

noncomputable section

namespace Cert.Buffers

open Idealize.ShloMosaic Idealize.SL.Sem

variable {sig : RefSig} {κ : Kind} {sp : Space} {S : Shape} {e : EltTy} {Val : EltTy → Type}

theorem zero2 : (![0, 0] : Fin 2 → ℕ) = fun _ => 0 := by
  funext a; fin_cases a <;> rfl

/-- A load of the whole buffer reads its contents. -/
theorem readAt_whole (v : View sig κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb (v.read Val f)

/-- After a store over the whole buffer the buffer holds what was stored, whatever it held before. -/
theorem read_store_whole (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The contents `d` of an `m` by `n` buffer after its `k` columns from column `o` on are overwritten by `w`. -/
def putCols {m n k : ℕ} {α : Type} (o : ℕ) (d : (⟨2, ![m, n]⟩ : Shape).Idx → α) (w : (⟨2, ![m, k]⟩ : Shape).Idx → α) :
    (⟨2, ![m, n]⟩ : Shape).Idx → α := fun y =>
  if h : o ≤ (y 1).val ∧ (y 1).val < o + k then w (ValueIdx.ix2 (y 0) ⟨(y 1).val - o, by omega⟩) else d y

/-- After a store over `k` columns the buffer holds the stored columns there and what it held elsewhere. -/
theorem read_store_cols {m n k o : ℕ} (v : View sig κ sp ⟨2, ![m, n]⟩ e) (f : v.ty.Contents Val) {off : Fin 2 → ℕ}
    (h0 : off 0 = 0) (h1 : off 1 = o)
    (inb : ∀ a, off a + (⟨2, ![m, k]⟩ : Shape).size a ≤ (⟨2, ![m, n]⟩ : Shape).size a) (w : (⟨2, ![m, k]⟩ : Shape).Idx → Val e) :
    v.read Val (v.writes Val f [(⟨Rect.unit off (⟨2, ![m, k]⟩ : Shape).size inb, w⟩ : View.Piece Val ⟨2, ![m, n]⟩ e)])
      = putCols o (v.read Val f) w := by
  funext y
  unfold putCols
  split
  case isTrue h =>
    have hy : (Rect.unit (s := ⟨2, ![m, n]⟩) off (⟨2, ![m, k]⟩ : Shape).size inb).emb (ValueIdx.ix2 (y 0) ⟨(y 1).val - o, by omega⟩) = y := by
      funext a
      apply Fin.ext
      match a with
      | ⟨0, _⟩ => show off 0 + 1 * (y 0).val = (y 0).val; omega
      | ⟨1, _⟩ => show off 1 + 1 * ((y 1).val - o) = (y 1).val; omega
    have e := View.read_writes_cons_emb v f (Rect.unit (s := ⟨2, ![m, n]⟩) off (⟨2, ![m, k]⟩ : Shape).size inb) w []
      (ValueIdx.ix2 (y 0) ⟨(y 1).val - o, by omega⟩)
    rw [hy] at e
    exact e
  case isFalse h =>
    have hy : y ∉ Finset.univ.map (Rect.unit (s := ⟨2, ![m, n]⟩) off (⟨2, ![m, k]⟩ : Shape).size inb).emb := by
      rw [Rect.map_emb_univ, Rect.mem_set_unit]
      intro hh
      have h2 := hh 1
      exact h ⟨by omega, by
        have : (⟨2, ![m, k]⟩ : Shape).size 1 = k := rfl
        omega⟩
    rw [View.writes_cons, View.read_slice_write_of_not_mem _ _ _ _ hy, View.writes_nil]

end Cert.Buffers

end
-- ==== Proof.KernelIdeal.Body.lean ====
module

public import proofs.«01_k».proof.Proof.Gen.KernelIdeal.Frame
public import proofs.«01_k».proof.Proof.Gen.KernelIdeal.Skeleton
public import proofs.«01_k».proof.Proof.Buffers

@[expose] public section

set_option maxRecDepth 16384

noncomputable section

namespace Cert.KernelIdeal.Hand

open Cert.KernelIdeal Cert.KernelIdeal.Gen Cert.Buffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the body does at one grid point, from the contents of its operands' buffers: at the first tile of a row block, at
a tile in the middle, and at the last. -/

/-- The running row maximum after one more tile: the larger of what it was and the tile's own row maximum. -/
def stepMax (prev : Vec F S512x1 .f32) (xc : Vec F S512x4608 .fp8e4m3) (xs : Vec F S512x1 .f32) (wg wu : Vec F S4608x512 .fp8e4m3)
    (sg su : Vec F S1x512 .f32) : Vec F S512x1 .f32 :=
  k0_pay1 prev (k0_pay16 xc xs wg wu sg su)

/-- The codes of a block of rows of `x`. -/
def codesOf (x : Vec F S512x4608 .bf16) : Vec F S512x4608 .fp8e4m3 := k0_pay12 (k0_pay3 x) (k0_pay7 x)

/-- The activation buffer's contents `h` with the tile of grid point `i` put into its columns. -/
def withTile (i : grid0.Coords) (h : Vec F S512x4608 .f32) (tile : Vec F S512x512 .f32) : Vec F S512x4608 .f32 :=
  putCols (k0_off1 i 1) h tile

variable (c : Dev nD) (i : grid0.Coords)
  (arg2 : Memref sig .tc .vmem S512x4608 .bf16) (harg2 : arg2.IsWhole) (arg3 : Memref sig .tc .vmem S4608x512 .fp8e4m3) (harg3 : arg3.IsWhole)
  (arg4 : Memref sig .tc .vmem S4608x512 .fp8e4m3) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1 .f32) (harg7 : arg7.IsWhole)
  (arg8 : Memref sig .tc .vmem S512x4608 .fp8e4m3) (harg8 : arg8.IsWhole) (arg9 : Memref sig .tc .vmem S512x4608 .fp8e4m3) (harg9 : arg9.IsWhole)
  (arg10 : Memref sig .tc .vmem S512x1 .f32) (harg10 : arg10.IsWhole) (arg11 : Memref sig .tc .vmem S512x4608 .f32) (harg11 : arg11.IsWhole)
  (arg12 : Memref sig .tc .vmem S512x1 .f32) (harg12 : arg12.IsWhole)
  (x0 : Vec F S512x4608 .bf16) (x1 : Vec F S4608x512 .fp8e4m3) (x2 : Vec F S4608x512 .fp8e4m3) (x3 : Vec F S1x512 .f32) (x4 : Vec F S1x512 .f32)
  (x5 : Vec F S512x1 .f32) (x6 : Vec F S512x4608 .fp8e4m3) (xc : Vec F S512x4608 .fp8e4m3) (xs : Vec F S512x1 .f32)
  (h : Vec F S512x4608 .f32) (a : Vec F S512x1 .f32)
  (E : Set ℕ) (K : PUnit.{1} → sProp (MT nD τ sig Unit (Elt F) ℕ (UR sig nD τ) ℕ))

set_option maxHeartbeats 1200000 in
/-- At the first tile of a row block the body quantises the rows of `x` it finds in `arg2`, leaves their codes and scales, puts the tile
    into its columns of the activation buffer and starts the running row maximum from zero. -/
theorem run_first (hc0 : k0_cond1 i = 1#1) (hc1 : ¬k0_cond2 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xc ∗ owns (c : Thread nD τ) arg10 fullShare xs ∗ owns (c : Thread nD τ) arg11 fullShare h ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (codesOf x0) ∗ owns (c : Thread nD τ) arg10 fullShare (k0_pay6 x0) ∗ owns (c : Thread nD τ) arg11 fullShare (withTile i h (k0_pay15 (codesOf x0) (k0_pay6 x0) x1 x2 x3 x4)) ∗ owns (c : Thread nD τ) arg12 fullShare (stepMax k0_pay13 (codesOf x0) (k0_pay6 x0) x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12
  sl_exec (disch := first | sl_exact hc0 | sl_exact hc1)
  sl_step
  have r2 := (readAt_whole arg2.view (harg2.unread x0) zero2 inb_S512x4608_S512x4608_0_0).trans (harg2.read_unread x0)
  have r3 := (readAt_whole arg3.view (harg3.unread x1) zero2 inb_S4608x512_S4608x512_0_0).trans (harg3.read_unread x1)
  have r4 := (readAt_whole arg4.view (harg4.unread x2) zero2 inb_S4608x512_S4608x512_0_0).trans (harg4.read_unread x2)
  have r5 := (readAt_whole arg5.view (harg5.unread x3) zero2 inb_S1x512_S1x512_0_0).trans (harg5.read_unread x3)
  have r6 := (readAt_whole arg6.view (harg6.unread x4) zero2 inb_S1x512_S1x512_0_0).trans (harg6.read_unread x4)
  have w9 := View.readCov_unit_zero (Val := Elt F) arg9.view zero2 inb_S512x4608_S512x4608_0_0 (codesOf x0)
  have w10 := View.readCov_unit_zero (Val := Elt F) arg10.view zero2 inb_S512x1_S512x1_0_0 (k0_pay6 x0)
  have w12 := View.readCov_unit_zero (Val := Elt F) arg12.view zero2 inb_S512x1_S512x1_0_0 (k0_pay13 (F := F))
  have e9 : run_first.sl.v3 c arg2 harg2 arg9 x0 = codesOf x0 := by
    delta run_first.sl.v3 run_first.sl.H9_1 run_first.sl.r run_first.sl.r_2; simp only [r2]; exact w9
  have e10 : run_first.sl.v5 c arg2 harg2 arg10 x0 = k0_pay6 x0 := by
    delta run_first.sl.v5 run_first.sl.H10_1 run_first.sl.r_1; simp only [r2]; exact w10
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; delta run_first.sl.H9_1 run_first.sl.r run_first.sl.r_2; simp only [r2]; exact read_store_whole arg9.view _ zero2 _ _ _
  isplitl [H10]
  · iexists _; isplitr
    swap; · iexact H10
    ipureintro; delta run_first.sl.H10_1 run_first.sl.r_1; simp only [r2]; exact read_store_whole arg10.view _ zero2 _ _ _
  isplitl [H11]
  · iexists _; isplitr
    swap; · iexact H11
    ipureintro; simp only [e9, e10, r3, r4, r5, r6]
    refine (read_store_cols arg11.view _ rfl rfl _ _).trans ?_
    rw [hf11]; rfl
  iexists _; isplitr
  swap; · iexact H12
  ipureintro; delta run_first.sl.r_3 run_first.sl.v31 run_first.sl.H12_1; simp only [e9, e10, r3, r4, r5, r6]
  refine (read_store_whole arg12.view _ zero2 _ _ _).trans ?_
  exact congrArg (k0_pay1 · _) w12

set_option maxHeartbeats 1200000 in
/-- At a tile in the middle of a row block the body puts the tile into its columns of the activation buffer and updates the
    running row maximum; the outputs' buffers stay as they are. -/
theorem run_mid (hc0 : ¬k0_cond1 i = 1#1) (hc1 : ¬k0_cond2 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xc ∗ owns (c : Thread nD τ) arg10 fullShare xs ∗ owns (c : Thread nD τ) arg11 fullShare h ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xc ∗ owns (c : Thread nD τ) arg10 fullShare xs ∗ owns (c : Thread nD τ) arg11 fullShare (withTile i h (k0_pay15 xc xs x1 x2 x3 x4)) ∗ owns (c : Thread nD τ) arg12 fullShare (stepMax a xc xs x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12
  sl_exec (disch := first | sl_exact hc0 | sl_exact hc1)
  sl_step
  have r3 := (readAt_whole arg3.view (harg3.unread x1) zero2 inb_S4608x512_S4608x512_0_0).trans (harg3.read_unread x1)
  have r4 := (readAt_whole arg4.view (harg4.unread x2) zero2 inb_S4608x512_S4608x512_0_0).trans (harg4.read_unread x2)
  have r5 := (readAt_whole arg5.view (harg5.unread x3) zero2 inb_S1x512_S1x512_0_0).trans (harg5.read_unread x3)
  have r6 := (readAt_whole arg6.view (harg6.unread x4) zero2 inb_S1x512_S1x512_0_0).trans (harg6.read_unread x4)
  have r9 := (readAt_whole arg9.view (harg9.unread xc) zero2 inb_S512x4608_S512x4608_0_0).trans (harg9.read_unread xc)
  have r10 := (readAt_whole arg10.view (harg10.unread xs) zero2 inb_S512x1_S512x1_0_0).trans (harg10.read_unread xs)
  have r12 := (readAt_whole arg12.view (harg12.unread a) zero2 inb_S512x1_S512x1_0_0).trans (harg12.read_unread a)
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; simp only [r3, r4, r5, r6, r9, r10]
    refine (read_store_cols arg11.view _ rfl rfl _ _).trans ?_
    rw [hf11]; rfl
  iexists _; isplitr
  swap; · iexact H12
  ipureintro; delta run_mid.sl.r run_mid.sl.r_1; simp only [r3, r4, r5, r6, r9, r10, r12]
  exact read_store_whole arg12.view _ zero2 _ _ _

set_option maxHeartbeats 1200000 in
/-- At the last tile of a row block the body also quantises the activation buffer by the final row maximum, and leaves the codes
    and the scales. -/
theorem run_last (hc0 : ¬k0_cond1 i = 1#1) (hc1 : k0_cond2 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xc ∗ owns (c : Thread nD τ) arg10 fullShare xs ∗ owns (c : Thread nD τ) arg11 fullShare h ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay10 (stepMax a xc xs x1 x2 x3 x4)) ∗ owns (c : Thread nD τ) arg8 fullShare (k0_pay2 (k0_pay11 (stepMax a xc xs x1 x2 x3 x4)) (withTile i h (k0_pay15 xc xs x1 x2 x3 x4))) ∗ owns (c : Thread nD τ) arg9 fullShare xc ∗ owns (c : Thread nD τ) arg10 fullShare xs ∗ owns (c : Thread nD τ) arg11 fullShare (withTile i h (k0_pay15 xc xs x1 x2 x3 x4)) ∗ owns (c : Thread nD τ) arg12 fullShare (stepMax a xc xs x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12
  sl_exec (disch := first | sl_exact hc0 | sl_exact hc1)
  sl_step
  have r3 := (readAt_whole arg3.view (harg3.unread x1) zero2 inb_S4608x512_S4608x512_0_0).trans (harg3.read_unread x1)
  have r4 := (readAt_whole arg4.view (harg4.unread x2) zero2 inb_S4608x512_S4608x512_0_0).trans (harg4.read_unread x2)
  have r5 := (readAt_whole arg5.view (harg5.unread x3) zero2 inb_S1x512_S1x512_0_0).trans (harg5.read_unread x3)
  have r6 := (readAt_whole arg6.view (harg6.unread x4) zero2 inb_S1x512_S1x512_0_0).trans (harg6.read_unread x4)
  have r9 := (readAt_whole arg9.view (harg9.unread xc) zero2 inb_S512x4608_S512x4608_0_0).trans (harg9.read_unread xc)
  have r10 := (readAt_whole arg10.view (harg10.unread xs) zero2 inb_S512x1_S512x1_0_0).trans (harg10.read_unread xs)
  have r12 := (readAt_whole arg12.view (harg12.unread a) zero2 inb_S512x1_S512x1_0_0).trans (harg12.read_unread a)
  have s12 := fun w => View.readCov_unit_zero (Val := Elt F) arg12.view zero2 inb_S512x1_S512x1_0_0 w
  have e12 : run_last.sl.v42 c arg3 harg3 arg4 harg4 arg5 harg5 arg6 harg6 arg9 harg9 arg10 harg10 arg12 harg12 x1 x2 x3 x4 xc xs a
      = stepMax a xc xs x1 x2 x3 x4 := by
    delta run_last.sl.v42 run_last.sl.H12_1 run_last.sl.r run_last.sl.r_1; simp only [r3, r4, r5, r6, r9, r10, r12]; exact s12 _
  have e11 : arg11.view.read (Elt F) (arg11.view.writes (Elt F) (harg11.unread h)
      (run_last.sl.H11_1 c i arg3 harg3 arg4 harg4 arg5 harg5 arg6 harg6 arg9 harg9 arg10 harg10 x1 x2 x3 x4 xc xs))
      = withTile i h (k0_pay15 xc xs x1 x2 x3 x4) := by
    delta run_last.sl.H11_1; simp only [r3, r4, r5, r6, r9, r10]
    refine (read_store_cols arg11.view _ rfl rfl _ _).trans ?_
    rw [hf11]; rfl
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; simp only [e12]; exact read_store_whole arg7.view _ zero2 _ _ _
  isplitl [H8]
  · iexists _; isplitr
    swap; · iexact H8
    ipureintro; delta run_last.sl.r_2 run_last.sl.v82; simp only [e12]
    refine (read_store_whole arg8.view _ zero2 _ _ _).trans ?_
    exact congrArg (k0_pay2 _) ((readAt_whole arg11.view _ zero2 _).trans e11)
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; exact e11
  iexists _; isplitr
  swap; · iexact H12
  ipureintro; delta run_last.sl.H12_1 run_last.sl.r run_last.sl.r_1; simp only [r3, r4, r5, r6, r9, r10, r12]
  exact read_store_whole arg12.view _ zero2 _ _ _

end Cert.KernelIdeal.Hand

end
-- ==== Proof.KernelIdeal.Contents.lean ====
module

public import proofs.«01_k».proof.Proof.KernelIdeal.Body
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen Cert.Buffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the buffers hold after each grid point, as functions of the arrays the region finds. Point `9 i + j` works on row block
`i` and column tile `j`. -/

/-- There are 216 grid points. -/
theorem lt_216 (t : Fin cfg0.N) : t.val < 216 := lt_of_lt_of_eq t.isLt (show cfg0.N = 216 from N_0)

/-- The grid coordinates of a point. -/
theorem coords0 (t : Fin cfg0.N) : (grid0.coords t 0).val = t.val / 9 % 24 := Pipeline.Grid.coords_val t 0 (by decide) rfl
theorem coords1 (t : Fin cfg0.N) : (grid0.coords t 1).val = t.val / 1 % 9 := Pipeline.Grid.coords_val t 1 (by decide) rfl

/-- The body's first condition holds at the first tile of a row block. -/
theorem cond1_iff (t : Fin cfg0.N) : k0_cond1 (grid0.coords t) = 1#1 ↔ t.val % 9 = 0 := by
  have ht := lt_216 t
  have e1 := coords1 t
  simp only [k0_cond1, e1]
  word_cmp

/-- The body's second condition holds at the last tile of a row block. -/
theorem cond2_iff (t : Fin cfg0.N) : k0_cond2 (grid0.coords t) = 1#1 ↔ t.val % 9 = 8 := by
  have ht := lt_216 t
  have e1 := coords1 t
  simp only [k0_cond2, e1]
  word_cmp

/-- The column at which a point's tile begins. -/
theorem off_tile (t : Fin cfg0.N) : k0_off1 (grid0.coords t) 1 = 512 * (t.val % 9) := by
  have key : ∀ j : Fin 9, (Scalar.indexCast (Scalar.muli (BitVec.ofNat 32 j.val) 512#32)).toNat = 512 * j.val := by decide
  have e1 := coords1 t
  have h := key ⟨t.val % 9, Nat.mod_lt _ (by decide)⟩
  rw [Nat.div_one] at e1
  have : k0_off1 (grid0.coords t) 1 = (Scalar.indexCast (Scalar.muli (BitVec.ofNat 32 (grid0.coords t 1).val) 512#32)).toNat := rfl
  rw [this, e1]; exact h

/-- The first point of a point's row block. -/
def rowStart (t : Fin cfg0.N) : Fin cfg0.N := ⟨9 * (t.val / 9), lt_of_le_of_lt (Nat.mul_div_le _ _) t.isLt⟩

/-- The point before. -/
abbrev prev (t : Fin cfg0.N) : Fin cfg0.N := ⟨t.val - 1, Nat.lt_of_le_of_lt (Nat.sub_le _ _) t.isLt⟩

theorem rowStart_first (t : Fin cfg0.N) (h : t.val % 9 = 0) : rowStart t = t := Fin.ext (by show 9 * (t.val / 9) = t.val; omega)
theorem rowStart_prev (t : Fin cfg0.N) (h : ¬t.val % 9 = 0) : rowStart (prev t) = rowStart t :=
  Fin.ext (by show 9 * ((t.val - 1) / 9) = 9 * (t.val / 9); omega)

/-- The codes of the row block of `x` a point works on. -/
def xCodes (c : Dev nD) (t : Fin cfg0.N) : Vec F S512x4608 .fp8e4m3 := codesOf (iblk m c 0 (rowStart t))
/-- The scales of the row block of `x` a point works on. -/
def xScales (c : Dev nD) (t : Fin cfg0.N) : Vec F S512x1 .f32 := k0_pay6 (iblk m c 0 (rowStart t))
/-- The activation tile a point computes. -/
def tile (c : Dev nD) (t : Fin cfg0.N) : Vec F S512x512 .f32 :=
  k0_pay15 (xCodes m c t) (xScales m c t) (iblk m c 1 t) (iblk m c 2 t) (iblk m c 3 t) (iblk m c 4 t)
/-- A running row maximum after a point's tile. -/
def stepAt (c : Dev nD) (t : Fin cfg0.N) (p : Vec F S512x1 .f32) : Vec F S512x1 .f32 :=
  stepMax p (xCodes m c t) (xScales m c t) (iblk m c 1 t) (iblk m c 2 t) (iblk m c 3 t) (iblk m c 4 t)

/-- The running row maximum after point `n`: started from zero at the first tile of each row block. -/
def maxAt (c : Dev nD) : (n : ℕ) → n < cfg0.N → Vec F S512x1 .f32
  | 0, h => stepAt m c ⟨0, h⟩ k0_pay13
  | n + 1, h => stepAt m c ⟨n + 1, h⟩ (if (n + 1) % 9 = 0 then k0_pay13 else maxAt c n (Nat.lt_of_succ_lt h))

theorem maxAt_first (c : Dev nD) (t : Fin cfg0.N) (h : t.val % 9 = 0) : maxAt m c t.val t.isLt = stepAt m c t k0_pay13 := by
  obtain ⟨n, hn⟩ := t
  cases n with
  | zero => rfl
  | succ n => exact congrArg (stepAt m c _) (if_pos h)

theorem maxAt_next (c : Dev nD) (t : Fin cfg0.N) (h : ¬t.val % 9 = 0) :
    maxAt m c t.val t.isLt = stepAt m c t (maxAt m c (prev t).val (prev t).isLt) := by
  obtain ⟨n, hn⟩ := t
  cases n with
  | zero => exact absurd (Nat.zero_mod 9) h
  | succ n => exact congrArg (stepAt m c _) (if_neg h)

/-- The point of a row block that computes the tile a column lies in. -/
def tilePoint (t : Fin cfg0.N) (col : Fin 4608) : Fin cfg0.N :=
  ⟨9 * (t.val / 9) + col.val / 512, by
    have := lt_216 t; have := col.isLt; show _ < grid0.N; rw [N_0]; omega⟩

/-- The activations of a point's row block, every column at what its own tile's point computes. -/
def activations (c : Dev nD) (t : Fin cfg0.N) : Vec F S512x4608 .f32 := fun y =>
  tile m c (tilePoint t (y 1)) (ValueIdx.ix2 (y 0) ⟨(y 1).val % 512, Nat.mod_lt _ (by decide)⟩)

/-- Contents of the activation buffer in which the tiles up to a point's are in their places. -/
def Filled (c : Dev nD) (t : Fin cfg0.N) (d : Vec F S512x4608 .f32) : Prop :=
  ∀ y : S512x4608.Idx, (y 1).val < 512 * (t.val % 9 + 1) → d y = activations m c t y

theorem activations_prev (c : Dev nD) (t : Fin cfg0.N) (h : ¬t.val % 9 = 0) : activations m c (prev t) = activations m c t := by
  funext y
  have : tilePoint (prev t) (y 1) = tilePoint t (y 1) := Fin.ext (by
    show 9 * ((t.val - 1) / 9) + _ = 9 * (t.val / 9) + _
    congr 2; omega)
  unfold activations; rw [this]

/-- A column of the tile just put in. -/
theorem withTile_in (c : Dev nD) (t : Fin cfg0.N) (d : Vec F S512x4608 .f32) (y : S512x4608.Idx)
    (h0 : 512 * (t.val % 9) ≤ (y 1).val) (h1 : (y 1).val < 512 * (t.val % 9 + 1)) :
    withTile (grid0.coords t) d (tile m c t) y = activations m c t y := by
  have hy : (y 1).val / 512 = t.val % 9 := by omega
  have hp : tilePoint t (y 1) = t := Fin.ext (by show 9 * (t.val / 9) + (y 1).val / 512 = t.val; omega)
  unfold withTile activations
  rw [off_tile, hp]
  have hc : 512 * (t.val % 9) ≤ (y 1).val ∧ (y 1).val < 512 * (t.val % 9) + 512 := ⟨h0, by omega⟩
  show dite _ _ _ = _
  rw [dif_pos hc]
  congr 2
  exact Fin.ext (show (y 1).val - 512 * (t.val % 9) = (y 1).val % 512 by omega)

/-- A column of another tile. -/
theorem withTile_out (c : Dev nD) (t : Fin cfg0.N) (d : Vec F S512x4608 .f32) (y : S512x4608.Idx)
    (h : (y 1).val < 512 * (t.val % 9)) : withTile (grid0.coords t) d (tile m c t) y = d y := by
  unfold withTile
  rw [off_tile]
  show dite _ _ _ = _
  rw [dif_neg (by omega)]

theorem filled_first (c : Dev nD) (t : Fin cfg0.N) (h : t.val % 9 = 0) (d : Vec F S512x4608 .f32) :
    Filled m c t (withTile (grid0.coords t) d (tile m c t)) := fun y hy => withTile_in m c t d y (by omega) hy

theorem filled_next (c : Dev nD) (t : Fin cfg0.N) (h : ¬t.val % 9 = 0) (d : Vec F S512x4608 .f32) (hd : Filled m c (prev t) d) :
    Filled m c t (withTile (grid0.coords t) d (tile m c t)) := fun y hy => by
  by_cases h0 : 512 * (t.val % 9) ≤ (y 1).val
  · exact withTile_in m c t d y h0 hy
  · rw [withTile_out m c t d y (by omega), hd y (by show _ < 512 * ((t.val - 1) % 9 + 1); omega), activations_prev m c t h]

theorem filled_last (c : Dev nD) (t : Fin cfg0.N) (h : t.val % 9 = 8) (d : Vec F S512x4608 .f32) (hd : Filled m c t d) :
    d = activations m c t := funext fun y => hd y (by have : (y 1).val < 4608 := (y 1).isLt; omega)

/-! ## The pipeline's proof data -/

/-- The scratch operands: the activation buffer and the running row maximum. -/
abbrev scM0_0 : Memref sig .tc .vmem S512x4608 .f32 := Memref.whole cc0_scratch0
abbrev scM0_1 : Memref sig .tc .vmem S512x1 .f32 := Memref.whole cc0_scratch1

/-- The region's entry invariant, the scratch operands as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Between points: the activation buffer has the tiles done so far in their places, and the running maximum is theirs. -/
def PhiS (c : Dev nD) : (n : ℕ) → n ≤ cfg0.N → sProp 𝕄
  | 0, _ => Pipeline.ΦA spec0 c
  | n + 1, hn => iprop(iprop((∃ d : {d : Vec F S512x4608 .f32 // Filled m c ⟨n, hn⟩ d}, owns (c : Thread nD τ) scM0_0 fullShare d.1)
      ∗ owns (c : Thread nD τ) scM0_1 fullShare (maxAt m c n hn)) ∗ (∃ r, prngReg c r))

theorem PhiS_succ (c : Dev nD) (n : ℕ) (hn : n < cfg0.N) :
    PhiS m c (n + 1) hn = iprop(iprop((∃ d : {d : Vec F S512x4608 .f32 // Filled m c ⟨n, hn⟩ d}, owns (c : Thread nD τ) scM0_0 fullShare d.1)
      ∗ owns (c : Thread nD τ) scM0_1 fullShare (maxAt m c n hn)) ∗ (∃ r, prngReg c r)) := rfl

theorem PhiS_pos (c : Dev nD) (t : Fin cfg0.N) (hz : t.val ≠ 0) :
    PhiS m c t.val (Nat.le_of_lt t.isLt) = iprop(iprop((∃ d : {d : Vec F S512x4608 .f32 // Filled m c (prev t) d}, owns (c : Thread nD τ) scM0_0 fullShare d.1)
      ∗ owns (c : Thread nD τ) scM0_1 fullShare (maxAt m c (prev t).val (prev t).isLt)) ∗ (∃ r, prngReg c r)) := by
  obtain ⟨n, hn⟩ := t
  cases n with
  | zero => exact absurd rfl hz
  | succ n => rfl

/-- At any time the invariant gives the scratch operands at some contents. -/
theorem PhiS_any (c : Dev nD) (n : ℕ) (hn : n ≤ cfg0.N) : PhiS m c n hn ⊢ Pipeline.ΦA spec0 c := by
  cases n with
  | zero => exact Idealize.SL.BI.Entails.refl _
  | succ n =>
    rw [PhiS_succ, PhiA0_eq]
    iintro ⟨⟨⟨%d, H0⟩, H1⟩, Hg⟩
    isplitl [H0 H1]
    · isplitl [H0]
      · iexists _; iexact H0
      iexists _; iexact H1
    iexact Hg

/-- The proof data of the pipeline on core `c`: the arrays as the region finds them, each input's buffer at its block, the outputs'
    at the codes and scales of the row block's activations and of its rows of `x`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay10 (maxAt m c t.val t.isLt)
    | ⟨6, _⟩ => k0_pay2 (k0_pay11 (maxAt m c t.val t.isLt)) (activations m c t)
    | ⟨7, _⟩ => xCodes m c t
    | ⟨8, _⟩ => xScales m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay10 (maxAt m c t.val t.isLt) := by dsimp only [dats]
theorem after0_6 (c : Dev nD) (t : Fin cfg0.N) :
    (dats m 0 c).after 6 t = k0_pay2 (k0_pay11 (maxAt m c t.val t.isLt)) (activations m c t) := by dsimp only [dats]
theorem after0_7 (c : Dev nD) (t : Fin cfg0.N) : (dats m 0 c).after 7 t = xCodes m c t := by dsimp only [dats]
theorem after0_8 (c : Dev nD) (t : Fin cfg0.N) : (dats m 0 c).after 8 t = xScales m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Where an output's buffer is not stored into. -/
theorem idle_h (t : Fin cfg0.N) (h : ¬t.val % 9 = 8) : cfg0.idle 5 (grid0.coords t) = true ∧ cfg0.idle 6 (grid0.coords t) = true := by
  have : (!(k0_cond2 (grid0.coords t) == 1#1)) = true := by simpa [cond2_iff] using h
  exact ⟨this, this⟩
theorem live_h (t : Fin cfg0.N) (h : t.val % 9 = 8) : cfg0.idle 5 (grid0.coords t) = false ∧ cfg0.idle 6 (grid0.coords t) = false := by
  have : (!(k0_cond2 (grid0.coords t) == 1#1)) = false := by simpa [cond2_iff] using h
  exact ⟨this, this⟩
theorem idle_x (t : Fin cfg0.N) (h : ¬t.val % 9 = 0) : cfg0.idle 7 (grid0.coords t) = true ∧ cfg0.idle 8 (grid0.coords t) = true := by
  have : (!(k0_cond1 (grid0.coords t) == 1#1)) = true := by simpa [cond1_iff] using h
  exact ⟨this, this⟩
theorem live_x (t : Fin cfg0.N) (h : t.val % 9 = 0) : cfg0.idle 7 (grid0.coords t) = false ∧ cfg0.idle 8 (grid0.coords t) = false := by
  have : (!(k0_cond1 (grid0.coords t) == 1#1)) = false := by simpa [cond1_iff] using h
  exact ⟨this, this⟩

theorem noFlush (t : Fin cfg0.N) (h : ¬t.val % 9 = 8) : (cfg0.win 5).flush t = false ∧ (cfg0.win 6).flush t = false
    ∧ (cfg0.win 7).flush t = false ∧ (cfg0.win 8).flush t = false :=
  ⟨Bool.eq_false_iff.mpr fun e => h ((flush0_5 t).mp e), Bool.eq_false_iff.mpr fun e => h ((flush0_6 t).mp e),
    Bool.eq_false_iff.mpr fun e => h ((flush0_7 t).mp e), Bool.eq_false_iff.mpr fun e => h ((flush0_8 t).mp e)⟩

/-- After the first tile of a row block the codes of `x` are still in their buffer. -/
theorem before0_7 (c : Dev nD) (n : ℕ) (hn : n < cfg0.N) (h : ¬n % 9 = 0) (d) : (dats m 0 c).before 7 ⟨n, hn⟩ d = xCodes m c ⟨n, hn⟩ := by
  induction n with
  | zero => exact absurd (Nat.zero_mod 9) h
  | succ n ih =>
    have hn' : n < cfg0.N := Nat.lt_of_succ_lt hn
    have hx : xCodes m c ⟨n, hn'⟩ = xCodes m c ⟨n + 1, hn⟩ :=
      congrArg (fun u => codesOf (iblk m c 0 u)) (rowStart_prev ⟨n + 1, hn⟩ h)
    rw [(dats m 0 c).before_of_pos 7 ⟨n + 1, hn⟩ (Nat.succ_ne_zero n) rfl]
    have hf : (cfg0.win 7).flush ⟨n, hn'⟩ = false := (noFlush ⟨n, hn'⟩ (by show ¬n % 9 = 8; omega)).2.2.1
    show (if (cfg0.win 7).flush ⟨n, hn'⟩ = true then d else (dats m 0 c).left 7 ⟨n, hn'⟩ d) = _
    rw [hf, if_neg Bool.false_ne_true]
    unfold Dat.left
    by_cases h0 : n % 9 = 0
    · rw [(live_x ⟨n, hn'⟩ h0).1]
      exact hx
    · rw [(idle_x ⟨n, hn'⟩ h0).1]
      exact (ih hn' h0).trans hx

/-- After the first tile of a row block the scales of `x` are still in their buffer. -/
theorem before0_8 (c : Dev nD) (n : ℕ) (hn : n < cfg0.N) (h : ¬n % 9 = 0) (d) : (dats m 0 c).before 8 ⟨n, hn⟩ d = xScales m c ⟨n, hn⟩ := by
  induction n with
  | zero => exact absurd (Nat.zero_mod 9) h
  | succ n ih =>
    have hn' : n < cfg0.N := Nat.lt_of_succ_lt hn
    have hx : xScales m c ⟨n, hn'⟩ = xScales m c ⟨n + 1, hn⟩ :=
      congrArg (fun u => k0_pay6 (iblk m c 0 u)) (rowStart_prev ⟨n + 1, hn⟩ h)
    rw [(dats m 0 c).before_of_pos 8 ⟨n + 1, hn⟩ (Nat.succ_ne_zero n) rfl]
    have hf : (cfg0.win 8).flush ⟨n, hn'⟩ = false := (noFlush ⟨n, hn'⟩ (by show ¬n % 9 = 8; omega)).2.2.2
    show (if (cfg0.win 8).flush ⟨n, hn'⟩ = true then d else (dats m 0 c).left 8 ⟨n, hn'⟩ d) = _
    rw [hf, if_neg Bool.false_ne_true]
    unfold Dat.left
    by_cases h0 : n % 9 = 0
    · rw [(live_x ⟨n, hn'⟩ h0).2]
      exact hx
    · rw [(idle_x ⟨n, hn'⟩ h0).2]
      exact (ih hn' h0).trans hx

end Cert.KernelIdeal.Hand

end
-- ==== Proof.Formula.lean ====
module

public import Idealize.ShloMosaic.PureOps.Ideal
public import Idealize.ShloMosaic.PureOps.Ideal.Laws

@[expose] public section

/-! The mathematics both programs are read as, over the extended reals: a row's largest magnitude,
the power of two its scale is, the row quantised by it, the two halves of the product, the gated
activation, and that activation quantised in its turn. -/

noncomputable section

namespace Cert.Formula

open Idealize.ShloMosaic

/-- The magnitude of an extended real. -/
def mag (a : EReal) : EReal := max a (-a)

/-- A magnitude is not negative. -/
theorem mag_nonneg (a : EReal) : 0 ≤ mag a := by
  unfold mag
  rcases le_total 0 a with h | h
  · exact le_max_of_le_left h
  · exact le_max_of_le_right (by simpa using EReal.neg_le_neg_iff.mpr h)

/-- The largest magnitude of a row. -/
def rowMax {n : Nat} (f : Fin n → EReal) : EReal := Finset.univ.fold max ⊥ fun k => mag (f k)

/-- The constant `1/448` in single precision. -/
abbrev recip448 : EReal := Ideal.ofBits .f32 0x3B124925#32

/-- The largest finite number of single precision. -/
abbrev largest : EReal := Ideal.ofBits .f32 0x7F7FFFFF#32

/-- The smallest normal number of single precision. -/
abbrev tiny : EReal := Ideal.ofBits .f32 0x00800000#32

/-- The exponent of a row's scale, from the row's largest magnitude `a`: `⌊log₂ (a / 448)⌋ + 1`, and
zero where `a / 448` is below the smallest normal number or `a` is above the largest finite one. -/
def exponent (a : EReal) : EReal :=
  if a * recip448 < tiny ∨ largest < a then 0
  else Ideal.liftRound Int.floor (Ideal.div (Ideal.log (a * recip448)) (Ideal.log 2)) + 1

/-- A row's scale, from the row's largest magnitude. -/
def scale (a : EReal) : EReal := Ideal.exp2 (exponent a)

/-- The reciprocal of a row's scale, from the row's largest magnitude. -/
def inverse (a : EReal) : EReal := Ideal.exp2 (0 - exponent a)

/-- One element quantised: multiplied by the reciprocal of its row's scale and clipped to ±448. -/
def code (inv v : EReal) : EReal :=
  min (Ideal.ofBits .f32 0x43E00000#32) (max (Ideal.ofBits .f32 0xC3E00000#32) (v * inv))

variable (x : Fin 12288 → Fin 4608 → EReal) (w : Fin 4608 → Fin 9216 → EReal) (s : Fin 9216 → EReal)

/-- The scale of row `r` of the input. -/
def xScale (r : Fin 12288) : EReal := scale (rowMax (x r))

/-- Element `k` of row `r` of the quantised input. -/
def xCode (r : Fin 12288) (k : Fin 4608) : EReal := code (inverse (rowMax (x r))) (x r k)

/-- The rescaled product of the quantised row `r` and column `n` of the weights. -/
def product (r : Fin 12288) (n : Fin 9216) : EReal :=
  (∑ k, xCode x r k * w k n) * xScale x r * s n

/-- The gated product from its two halves: the sigmoid-weighted gate times the other half. -/
def gated (g u : EReal) : EReal := g * Ideal.logistic g * u

/-- Column `n` of the gate half of the weights. -/
abbrev gateCol (n : Fin 4608) : Fin 9216 := ⟨n.val, by omega⟩

/-- Column `n` of the other half of the weights. -/
abbrev upCol (n : Fin 4608) : Fin 9216 := ⟨4608 + n.val, by omega⟩

/-- The activation at row `r` and column `n`. -/
def act (r : Fin 12288) (n : Fin 4608) : EReal :=
  gated (product x w s r (gateCol n)) (product x w s r (upCol n))

/-- The scale of row `r` of the activations. -/
def hScale (r : Fin 12288) : EReal := scale (rowMax (act x w s r))

/-- Element `n` of row `r` of the quantised activations. -/
def hCode (r : Fin 12288) (n : Fin 4608) : EReal :=
  code (inverse (rowMax (act x w s r))) (act x w s r n)

/-- A row's largest magnitude is at most `b` exactly when every element's magnitude is. -/
theorem rowMax_le {n : Nat} (f : Fin n → EReal) (b : EReal) : rowMax f ≤ b ↔ ∀ k, mag (f k) ≤ b := by
  unfold rowMax
  rw [Finset.fold_max_le]
  simp

/-- The largest magnitude of a row with an element is not negative. -/
theorem rowMax_nonneg {n : Nat} (f : Fin n → EReal) (k : Fin n) : 0 ≤ rowMax f :=
  (mag_nonneg (f k)).trans ((rowMax_le f _).mp le_rfl k)

end Cert.Formula
-- ==== Proof.RowOps.lean ====
module

public import proofs.«01_k».proof.Proof.Formula
public import Idealize.ShloMosaic.PureOps.Ideal
public import Idealize.ShloMosaic.PureOps.Ideal.Laws
public import Idealize.ShloMosaic.Lib.Pipeline.Value
public import Idealize.ShloMosaic.Lib.Pointwise

@[expose] public section

/-! Operations along the rows of a matrix, read at one element: reductions kept as a column, columns and
rows spread over a matrix, and a product of two matrices. -/

noncomputable section

namespace Cert.RowOps

open Idealize.ShloMosaic

variable {R C K : Nat} {α : Type}

/-- A vector stood up as a column, read at a row. -/
theorem column_apply (v : (⟨1, ![R]⟩ : Shape).Idx → α) (h : (⟨1, ![R]⟩ : Shape).ShapeCasts ⟨2, ![R, 1]⟩) (r : Fin R) :
    shapeCast ⟨2, ![R, 1]⟩ v h (ix2 r 0) = v (ix1 r) := by
  refine shapeCast_apply _ _ _ _ ?_
  rw [Shape.rowMajor_val_one, Shape.rowMajor_val_two]
  show r.val = r.val * 1 + 0
  omega

/-- A column spread over a matrix, read at an element. -/
theorem spread_column (v : (⟨2, ![R, 1]⟩ : Shape).Idx → α) (h : (⟨2, ![R, 1]⟩ : Shape).Broadcasts ⟨2, ![R, C]⟩)
    (r : Fin R) (c : Fin C) : broadcastTo ⟨2, ![R, C]⟩ v h (ix2 r c) = v (ix2 r 0) := by
  refine broadcastTo_apply _ _ _ _ fun a => ?_
  match a with
  | ⟨0, _⟩ =>
    show r.val = if R = 1 then 0 else r.val
    have := r.isLt
    split <;> omega
  | ⟨1, _⟩ => rfl

/-- A row spread over a matrix, read at an element. -/
theorem spread_row (v : (⟨2, ![1, C]⟩ : Shape).Idx → α) (h : (⟨2, ![1, C]⟩ : Shape).Broadcasts ⟨2, ![R, C]⟩)
    (r : Fin R) (c : Fin C) : broadcastTo ⟨2, ![R, C]⟩ v h (ix2 r c) = v (ix2 0 c) := by
  refine broadcastTo_apply _ _ _ _ fun a => ?_
  match a with
  | ⟨0, _⟩ => rfl
  | ⟨1, _⟩ =>
    show c.val = if C = 1 then 0 else c.val
    have := c.isLt
    split <;> omega

/-- The place in a matrix of an element of a row. -/
theorem lift_row (h : (⟨2, ![R, C]⟩ : Shape).Reduces [1] ⟨1, ![R]⟩) (r : Fin R) (k : Fin C) :
    h.lift (ix1 r) k = ix2 r k := by
  funext a
  match a with
  | ⟨0, _⟩ => exact Fin.ext rfl
  | ⟨1, _⟩ => exact Fin.ext rfl

/-- The largest element of a row, kept as a column. -/
theorem max_column {φ : FTy} (src : FVec Ideal ⟨2, ![R, C]⟩ φ) (acc : BitVec φ.bits)
    (h : (⟨2, ![R, C]⟩ : Shape).Reduces [1] ⟨1, ![R]⟩) (hφ : FKind.Formats φ) (hacc : acc = FKind.maximumf.neutral φ hφ)
    (hc : (⟨1, ![R]⟩ : Shape).ShapeCasts ⟨2, ![R, 1]⟩) (r : Fin R) :
    shapeCast ⟨2, ![R, 1]⟩ (multiReduction .maximumf [1] ⟨1, ![R]⟩ src acc h hφ hacc) hc (ix2 r 0)
      = (Finset.univ : Finset (Fin C)).fold max (Ideal.ofBits φ acc) fun k => src (ix2 r k) := by
  rw [column_apply, Ideal.multiReduction_maximumf_single]
  exact Finset.fold_congr fun k _ => congrArg src (lift_row h r k)

/-- The two words a largest value is started from are minus infinity. -/
theorem neutral_bf16 : Ideal.ofBits .bf16 0xFF80#16 = ⊥ := by
  have e : Ideal.ofBits .bf16 0xFF80#16 = Ideal.ieee 8 7 0xFF80#16 := rfl
  rw [e]
  simp [Ideal.ieee]

theorem neutral_f32 : Ideal.ofBits .f32 0xFF800000#32 = ⊥ := by
  have e : Ideal.ofBits .f32 0xFF800000#32 = Ideal.ieee 8 23 0xFF800000#32 := rfl
  rw [e]
  simp [Ideal.ieee]

/-- The largest magnitude of a row, kept as a column. -/
theorem magnitude_column {φ : FTy} (src : FVec Ideal ⟨2, ![R, C]⟩ φ) (acc : BitVec φ.bits) (hbot : Ideal.ofBits φ acc = ⊥)
    (h : (⟨2, ![R, C]⟩ : Shape).Reduces [1] ⟨1, ![R]⟩) (hφ : FKind.Formats φ) (hacc : acc = FKind.maximumf.neutral φ hφ)
    (hc : (⟨1, ![R]⟩ : Shape).ShapeCasts ⟨2, ![R, 1]⟩) (r : Fin R) :
    shapeCast ⟨2, ![R, 1]⟩ (multiReduction .maximumf [1] ⟨1, ![R]⟩ (absf src) acc h hφ hacc) hc (ix2 r 0)
      = Formula.rowMax fun k => src (ix2 r k) := by
  rw [max_column, hbot]
  rfl

/-- The largest integer of a row, kept as a column. -/
theorem maxi_column (src : IVec ⟨2, ![R, C]⟩ 32) (acc : BitVec 32)
    (h : (⟨2, ![R, C]⟩ : Shape).Reduces [1] ⟨1, ![R]⟩) (hacc : acc = IKind.maxsi.neutral)
    (hc : (⟨1, ![R]⟩ : Shape).ShapeCasts ⟨2, ![R, 1]⟩) (r : Fin R) :
    shapeCast ⟨2, ![R, 1]⟩ (multiReductionI .maxsi [1] ⟨1, ![R]⟩ src acc h hacc) hc (ix2 r 0)
      = (Finset.univ : Finset (Fin C)).fold IntOp.maxsi acc fun k => src (ix2 r k) := by
  rw [column_apply, multiReductionI_eq_fold]
  refine (h.fold_filter_drop_single IntOp.maxsi acc src (ix1 r)).trans ?_
  exact Finset.fold_congr fun k _ => congrArg src (lift_row h r k)

end Cert.RowOps
-- ==== Proof.Scale.lean ====
module

public import proofs.«01_k».proof.Proof.Formula

@[expose] public section

/-! The kernel finds a scale's exponent by comparing with every power of two; here that scale is
shown to be the one the logarithm gives. -/

noncomputable section

namespace Cert.Scale

open Idealize.ShloMosaic Cert.Formula

/-- A power of two's word: its exponent field shifted into place. -/
@[irreducible] def word (k : BitVec 32) : BitVec 32 := IntOp.shli ArithUnit.vector k 23#32

/-- The exponent field the kernel finds for a quotient `q`: the largest `k` whose power of two is at
most `q`. -/
def largestPower (q : EReal) : BitVec 32 :=
  Finset.univ.fold IntOp.maxsi 2147483648#32 fun k : Fin 256 =>
    if Ideal.ofBits .f32 (word (BitVec.ofNat 32 k.val)) ≤ q then BitVec.ofNat 32 k.val else 0#32

/-- The exponent field the kernel finds for a row's largest magnitude. -/
def field (a : EReal) : BitVec 32 := if a ≤ largest then largestPower (a * recip448) else 255#32

/-- The fields whose scale is one. -/
abbrev special (f : BitVec 32) : BitVec 1 :=
  IntOp.ori (IntOp.cmpi .eq f 0#32) (IntOp.cmpi .eq f 255#32)

/-- The kernel's scale from an exponent field. -/
def scaleOf (f : BitVec 32) : EReal :=
  Ideal.ofBits .f32 (word (Scalar.select (special f) 127#32 (IntOp.addi f 1#32)))

/-- The kernel's reciprocal scale from an exponent field. -/
def inverseOf (f : BitVec 32) : EReal :=
  Ideal.ofBits .f32 (word (Scalar.select (special f) 127#32 (IntOp.subi 253#32 f)))

/-- A field shifted into place, read back: sign clear, fraction zero, exponent the field. -/
theorem word_parts : ∀ k : Fin 256,
    ((word (BitVec.ofNat 32 k.val)).extractLsb' 31 1 == 1#1) = false
    ∧ ((word (BitVec.ofNat 32 k.val)).extractLsb' 23 8).toNat = k.val
    ∧ ((word (BitVec.ofNat 32 k.val)).extractLsb' 0 23).toNat = 0 := by
  unfold word
  decide +kernel

/-- What a single-precision word denotes. -/
theorem ofBits_f32 (b : BitVec 32) : Ideal.ofBits .f32 b = Ideal.ieee 8 23 b := rfl

/-- A positive normal word, from its exponent field and its fraction. -/
theorem ofBits_normal (b : BitVec 32) (ex fr : Nat) (hs : (b.extractLsb' 31 1 == 1#1) = false)
    (he : (b.extractLsb' 23 8).toNat = ex) (hf : (b.extractLsb' 0 23).toNat = fr) (h0 : ex ≠ 0) (h1 : ex ≠ 255) :
    Ideal.ofBits .f32 b = (((8388608 + fr : ℝ) * (2 : ℝ) ^ ((ex : ℤ) - 150) : ℝ) : EReal) := by
  rw [ofBits_f32]
  unfold Ideal.ieee
  simp only [Nat.reduceAdd, hs, he, hf]
  rw [if_neg (by omega), if_neg h0]
  congr 1
  simp only [Bool.false_eq_true, if_false, one_mul, Nat.cast_add, Nat.cast_pow, Nat.cast_ofNat]
  have e : (ex : ℤ) - (2 ^ (8 - 1) - 1) - 23 = (ex : ℤ) - 150 := by
    norm_num
    omega
  rw [e]
  norm_num

/-- The field `k`, for `1 ≤ k ≤ 254`, is the power of two `2 ^ (k - 127)`. -/
theorem power_of_field (k : Nat) (h0 : 1 ≤ k) (h1 : k ≤ 254) :
    Ideal.ofBits .f32 (word (BitVec.ofNat 32 k)) = (((2 : ℝ) ^ ((k : ℤ) - 127) : ℝ) : EReal) := by
  obtain ⟨p0, p1, p2⟩ := word_parts ⟨k, by omega⟩
  have h := ofBits_normal (word (BitVec.ofNat 32 k)) k 0 p0 p1 p2 (by omega) (by omega)
  refine h.trans ?_
  congr 1
  rw [show (k : ℤ) - 127 = 23 + ((k : ℤ) - 150) by ring, zpow_add₀ (by norm_num)]
  norm_num

/-- The field zero is the number zero. -/
theorem power_of_zero : Ideal.ofBits .f32 (word (BitVec.ofNat 32 0)) = 0 := by
  have p : (word (BitVec.ofNat 32 0)) = 0#32 := by unfold word; decide +kernel
  rw [p, ofBits_f32]
  simp [Ideal.ieee]

/-- The field 255 is infinite. -/
theorem power_of_top : Ideal.ofBits .f32 (word (BitVec.ofNat 32 255)) = ⊤ := by
  obtain ⟨p0, p1, p2⟩ := word_parts ⟨255, by omega⟩
  simp only [] at p0 p1 p2
  rw [ofBits_f32]
  unfold Ideal.ieee
  simp only [Nat.reduceAdd]
  rw [p0, p1, p2]
  norm_num

/-- The largest of the numbers up to `K`, among 256 words the rest of which are zero, is `K`. -/
theorem fold_upto : ∀ K : Fin 256, (Finset.univ.fold IntOp.maxsi 2147483648#32 fun k : Fin 256 =>
    if k.val ≤ K.val then BitVec.ofNat 32 k.val else 0#32) = BitVec.ofNat 32 K.val := by
  decide +kernel

/-- What the fields between 1 and 246 make of the kernel's scale. -/
theorem fields_scale : ∀ K : Fin 256, 1 ≤ K.val → K.val ≤ 246 →
    Scalar.select (special (BitVec.ofNat 32 K.val)) 127#32 (IntOp.addi (BitVec.ofNat 32 K.val) 1#32)
      = BitVec.ofNat 32 (K.val + 1)
    ∧ Scalar.select (special (BitVec.ofNat 32 K.val)) 127#32 (IntOp.subi 253#32 (BitVec.ofNat 32 K.val))
      = BitVec.ofNat 32 (253 - K.val) := by
  decide +kernel

/-- The two special fields give the scale one. -/
theorem fields_special : ∀ b : Bool, (fun f : BitVec 32 =>
    Scalar.select (special f) 127#32 (IntOp.addi f 1#32) = BitVec.ofNat 32 127
    ∧ Scalar.select (special f) 127#32 (IntOp.subi 253#32 f) = BitVec.ofNat 32 127)
      (if b then 0#32 else 255#32) := by
  decide +kernel

theorem one_of_127 : Ideal.ofBits .f32 (word (BitVec.ofNat 32 127)) = 1 := by
  rw [power_of_field 127 (by omega) (by omega)]
  norm_num

theorem exp2_zero : Ideal.exp2 0 = 1 := by
  show ((Real.rpow 2 0 : ℝ) : EReal) = 1
  rw [Real.rpow_eq_pow, Real.rpow_zero]
  rfl

/-- Two to a whole power. -/
theorem exp2_int (E : ℤ) : Ideal.exp2 (((E : ℝ) : ℝ) : EReal) = (((2 : ℝ) ^ E : ℝ) : EReal) := by
  show ((Real.rpow 2 (E : ℝ) : ℝ) : EReal) = _
  rw [Real.rpow_eq_pow, Real.rpow_intCast]

/-- The constant `1/448` as a real number. -/
theorem recip448_eq : recip448 = (((9586981 : ℝ) * 2 ^ (-32 : ℤ) : ℝ) : EReal) := by
  have p : ((0x3B124925#32).extractLsb' 31 1 == 1#1) = false
    ∧ ((0x3B124925#32).extractLsb' 23 8).toNat = 118 ∧ ((0x3B124925#32).extractLsb' 0 23).toNat = 1198373 := by
    decide +kernel
  show Ideal.ofBits .f32 0x3B124925#32 = _
  rw [ofBits_normal _ 118 1198373 p.1 p.2.1 p.2.2 (by omega) (by omega)]
  norm_num

/-- The largest finite number as a real number. -/
theorem largest_eq : largest = (((16777215 : ℝ) * 2 ^ (104 : ℤ) : ℝ) : EReal) := by
  have p : ((0x7F7FFFFF#32).extractLsb' 31 1 == 1#1) = false
    ∧ ((0x7F7FFFFF#32).extractLsb' 23 8).toNat = 254 ∧ ((0x7F7FFFFF#32).extractLsb' 0 23).toNat = 8388607 := by
    decide +kernel
  show Ideal.ofBits .f32 0x7F7FFFFF#32 = _
  rw [ofBits_normal _ 254 8388607 p.1 p.2.1 p.2.2 (by omega) (by omega)]
  norm_num

/-- The smallest normal number as a real number. -/
theorem tiny_eq : tiny = (((2 : ℝ) ^ (-126 : ℤ) : ℝ) : EReal) := by
  have h := power_of_field 1 (by omega) (by omega)
  have e : word (BitVec.ofNat 32 1) = 0x00800000#32 := by unfold word; decide +kernel
  rw [e] at h
  rw [tiny, h]
  norm_num

/-- The field found for a real quotient at least the smallest normal number and below `2 ^ 120`. -/
theorem largestPower_normal (q : ℝ) (E : ℤ) (hE0 : -126 ≤ E) (hE1 : E < 120)
    (h0 : (2 : ℝ) ^ E ≤ q) (h1 : q < (2 : ℝ) ^ (E + 1)) :
    largestPower (q : EReal) = BitVec.ofNat 32 (E + 127).toNat := by
  have hK : (E + 127).toNat < 256 := by omega
  rw [← fold_upto ⟨(E + 127).toNat, hK⟩]
  unfold largestPower
  refine Finset.fold_congr fun k _ => ?_
  have hq0 : 0 < q := lt_of_lt_of_le (by positivity) h0
  refine if_congr ?_ rfl rfl
  rcases Nat.eq_zero_or_pos k.val with hk | hk
  · rw [hk, power_of_zero]
    exact iff_of_true (by exact_mod_cast hq0.le) (Nat.zero_le _)
  by_cases hk2 : k.val ≤ 254
  · rw [power_of_field k.val hk hk2, EReal.coe_le_coe_iff]
    constructor
    · intro h
      have : (2 : ℝ) ^ ((k.val : ℤ) - 127) < (2 : ℝ) ^ (E + 1) := lt_of_le_of_lt h h1
      have := (zpow_lt_zpow_iff_right₀ (by norm_num : (1 : ℝ) < 2)).mp this
      show k.val ≤ (E + 127).toNat
      omega
    · intro h
      have h : k.val ≤ (E + 127).toNat := h
      exact ((zpow_le_zpow_iff_right₀ (by norm_num : (1 : ℝ) < 2)).mpr (by omega)).trans h0
  · have : k.val = 255 := by omega
    rw [this, power_of_top]
    refine iff_of_false (by simp) ?_
    show ¬ 255 ≤ (E + 127).toNat
    omega

/-- The field found for a real quotient below the smallest normal number is zero. -/
theorem largestPower_small (q : ℝ) (h0 : 0 ≤ q) (h1 : q < (2 : ℝ) ^ (-126 : ℤ)) :
    largestPower (q : EReal) = 0#32 := by
  have e := fold_upto ⟨0, by omega⟩
  rw [show (0#32 : BitVec 32) = BitVec.ofNat 32 ((⟨0, by omega⟩ : Fin 256).val) from rfl, ← e]
  unfold largestPower
  refine Finset.fold_congr fun k _ => ?_
  refine if_congr ?_ rfl rfl
  rcases Nat.eq_zero_or_pos k.val with hk | hk
  · rw [hk, power_of_zero]
    exact iff_of_true (by exact_mod_cast h0) le_rfl
  refine iff_of_false ?_ (by show ¬ k.val ≤ 0; omega)
  by_cases hk2 : k.val ≤ 254
  · rw [power_of_field k.val hk hk2, EReal.coe_le_coe_iff, not_le]
    exact lt_of_lt_of_le h1 ((zpow_le_zpow_iff_right₀ (by norm_num : (1 : ℝ) < 2)).mpr (by omega))
  · have : k.val = 255 := by omega
    rw [this, power_of_top]
    simp

/-- The logarithm's floor brackets a positive real between two powers of two. -/
theorem floor_log (q : ℝ) (hq : 0 < q) :
    (2 : ℝ) ^ ⌊Real.log q / Real.log 2⌋ ≤ q ∧ q < (2 : ℝ) ^ (⌊Real.log q / Real.log 2⌋ + 1) := by
  have h2 : (0 : ℝ) < Real.log 2 := Real.log_pos (by norm_num)
  have hf0 := Int.floor_le (Real.log q / Real.log 2)
  have hf1 := Int.lt_floor_add_one (Real.log q / Real.log 2)
  rw [le_div_iff₀ h2] at hf0
  rw [div_lt_iff₀ h2] at hf1
  constructor
  · rw [← Real.log_le_log_iff (by positivity) hq, Real.log_zpow]
    exact hf0
  · rw [← Real.log_lt_log_iff hq (by positivity), Real.log_zpow]
    push_cast
    exact hf1

/-- The kernel's scale and reciprocal scale of a row are the logarithm's, for every largest
magnitude. -/
theorem scale_eq (a : EReal) (ha : 0 ≤ a) :
    scaleOf (field a) = scale a ∧ inverseOf (field a) = inverse a := by
  have hone : ∀ b : Bool, scaleOf (if b then 0#32 else 255#32) = 1
      ∧ inverseOf (if b then 0#32 else 255#32) = 1 := fun b => by
    obtain ⟨e1, e2⟩ := fields_special b
    unfold scaleOf inverseOf
    rw [e1, e2, one_of_127]
    exact ⟨rfl, rfl⟩
  have hzero : exponent a = 0 → scale a = 1 ∧ inverse a = 1 := fun h => by
    unfold scale inverse
    rw [h]
    simp [exp2_zero]
  by_cases hl : largest < a
  · obtain ⟨s1, s2⟩ := hzero (by unfold exponent; rw [if_pos (Or.inr hl)])
    have hf : field a = 255#32 := by unfold field; rw [if_neg (not_le.mpr hl)]
    rw [s1, s2, hf]
    exact hone false
  have hl' := not_lt.mp hl
  induction a using EReal.rec with
  | bot => simp at ha
  | top => exact absurd (by rw [largest_eq]; exact EReal.coe_lt_top _) hl
  | coe r =>
    have hr : 0 ≤ r := by exact_mod_cast ha
    have hrl : r ≤ (16777215 : ℝ) * 2 ^ (104 : ℤ) := by
      rw [largest_eq, EReal.coe_le_coe_iff] at hl'; exact hl'
    have hq : (r : EReal) * recip448 = ((r * ((9586981 : ℝ) * 2 ^ (-32 : ℤ)) : ℝ) : EReal) := by
      rw [recip448_eq, ← EReal.coe_mul]
    have hfield : field (r : EReal) = largestPower ((r * ((9586981 : ℝ) * 2 ^ (-32 : ℤ)) : ℝ) : EReal) := by
      unfold field; rw [if_pos hl', hq]
    have hexp : ∀ q : ℝ, (r : EReal) * recip448 = (q : EReal) → exponent (r : EReal)
        = if q < (2 : ℝ) ^ (-126 : ℤ) then 0
          else Ideal.liftRound Int.floor (Ideal.div (Ideal.log (q : EReal)) (Ideal.log 2)) + 1 := by
      intro q hq
      unfold exponent
      rw [hq, tiny_eq]
      refine if_congr ?_ rfl rfl
      rw [EReal.coe_lt_coe_iff]
      exact ⟨fun h => h.resolve_right hl, Or.inl⟩
    have hq0 : 0 ≤ r * ((9586981 : ℝ) * 2 ^ (-32 : ℤ)) := by positivity
    have hq1 : r * ((9586981 : ℝ) * 2 ^ (-32 : ℤ)) < (2 : ℝ) ^ (120 : ℤ) := by
      calc r * ((9586981 : ℝ) * 2 ^ (-32 : ℤ))
          ≤ ((16777215 : ℝ) * 2 ^ (104 : ℤ)) * ((9586981 : ℝ) * 2 ^ (-32 : ℤ)) := by gcongr
        _ < (2 : ℝ) ^ (120 : ℤ) := by norm_num
    have hexp := hexp _ hq
    rw [hfield]
    generalize r * ((9586981 : ℝ) * 2 ^ (-32 : ℤ)) = q at hq0 hq1 hexp
    by_cases hs : q < (2 : ℝ) ^ (-126 : ℤ)
    · obtain ⟨s1, s2⟩ := hzero (by rw [hexp, if_pos hs])
      rw [s1, s2, largestPower_small q hq0 hs]
      exact hone true
    · have hqp : 0 < q := lt_of_lt_of_le (by positivity) (not_lt.mp hs)
      obtain ⟨b0, b1⟩ := floor_log q hqp
      have hlog : Ideal.liftRound Int.floor (Ideal.div (Ideal.log (q : EReal)) (Ideal.log 2))
          = (((⌊Real.log q / Real.log 2⌋ : ℤ) : ℝ) : EReal) := by
        have h2 : (0 : ℝ) < Real.log 2 := Real.log_pos (by norm_num)
        have e1 : Ideal.log (q : EReal) = ((Real.log q : ℝ) : EReal) := by
          show (if q ≤ 0 then (⊥ : EReal) else _) = _
          rw [if_neg (not_le.mpr hqp)]
        have e2 : Ideal.log 2 = ((Real.log 2 : ℝ) : EReal) := by
          show Ideal.log ((2 : ℝ) : EReal) = _
          show (if (2 : ℝ) ≤ 0 then (⊥ : EReal) else _) = _
          rw [if_neg (by norm_num)]
        rw [e1, e2]
        unfold Ideal.div
        rw [if_neg (by exact_mod_cast h2.ne'), ← EReal.coe_inv, ← EReal.coe_mul, ← div_eq_mul_inv]
        rfl
      generalize ⌊Real.log q / Real.log 2⌋ = E at b0 b1 hlog
      have hE0 : -126 ≤ E := by
        have : (2 : ℝ) ^ (-126 : ℤ) < (2 : ℝ) ^ (E + 1) := lt_of_le_of_lt (not_lt.mp hs) b1
        have := (zpow_lt_zpow_iff_right₀ (by norm_num : (1 : ℝ) < 2)).mp this
        omega
      have hE1 : E < 120 := (zpow_lt_zpow_iff_right₀ (by norm_num : (1 : ℝ) < 2)).mp (lt_of_le_of_lt b0 hq1)
      have hexp' : exponent (r : EReal) = (((E + 1 : ℤ) : ℝ) : EReal) := by
        rw [hexp, if_neg hs, hlog]
        push_cast
        rfl
      rw [largestPower_normal q E hE0 hE1 b0 b1]
      obtain ⟨f1, f2⟩ := fields_scale ⟨(E + 127).toNat, by omega⟩ (by show 1 ≤ (E + 127).toNat; omega)
        (by show (E + 127).toNat ≤ 246; omega)
      unfold scaleOf inverseOf scale inverse
      simp only [] at f1 f2
      rw [f1, f2, hexp', power_of_field _ (by omega) (by omega), power_of_field _ (by omega) (by omega), exp2_int]
      constructor
      · congr 2
        omega
      · have e3 : (0 : EReal) - (((E + 1 : ℤ) : ℝ) : EReal) = (((-(E + 1) : ℤ) : ℝ) : EReal) := by
          rw [zero_sub, ← EReal.coe_neg]
          push_cast
          rfl
        rw [e3, exp2_int]
        congr 2
        omega

end Cert.Scale
-- ==== Proof.KernelIdeal.Values.lean ====
module

public import proofs.«01_k».proof.Proof.KernelIdeal.Contents
public import proofs.«01_k».proof.Proof.RowOps
public import proofs.«01_k».proof.Proof.Scale
public import Idealize.ShloMosaic.Lib.Pipeline.ValueKit.Geometry

@[expose] public section

set_option maxRecDepth 16384

/-! What the kernel's expressions compute on extended reals, read at one row or at one element. -/

noncomputable section

namespace Cert.KernelIdeal.Hand

open Cert.KernelIdeal Cert.KernelIdeal.Gen Cert.Buffers Cert.Formula Cert.Scale Cert.RowOps
open Idealize.ShloMosaic

/-- Choosing by a decided comparison. -/
theorem select_decide {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- Choosing between two vectors by a comparison with a third, at an element. -/
theorem select_ole {s : Shape} {α : Type} (a b : FVec Ideal s .f32) (x y : s.Idx → α) (i : s.Idx) :
    select (cmpf .ole a b) x y i = if a i ≤ b i then x i else y i := select_decide _ _ _

/-- The numbers 0 to 255 in a row. -/
abbrev counting : IVec S1x256 32 := iota .tc S1x256 32 [1] iota_S1x256_d1_w32

/-- The powers of two with exponent fields 0 to 255, in a row. -/
def powers : FVec Ideal S1x256 .f32 := bitcastToFloat .f32 (shli counting (broadcast S1x256 23#32))

/-- Each exponent field where its power of two is at most the row's quotient, and zero elsewhere. -/
def candidates (a : FVec Ideal S512x1 .f32) : IVec S512x256 32 :=
  select (cmpf .ole (broadcastTo S512x256 powers broadcasts_S1x256_S512x256)
      (broadcastTo S512x256 (mulf a (broadcast S512x1 recip448)) broadcasts_S512x1_S512x256))
    (broadcastTo S512x256 (shapeCast S1x256 counting shapeCasts_S1x256_S1x256) broadcasts_S1x256_S512x256)
    (broadcast S512x256 0#32)

theorem counting_apply (k : Fin 256) : counting (ix2 0 k) = BitVec.ofNat 32 k.val :=
  congrArg (BitVec.ofNat 32) (show 0 * 256 + k.val = k.val by omega)

theorem powers_apply (k : Fin 256) : powers (ix2 0 k) = Ideal.ofBits .f32 (word (BitVec.ofNat 32 k.val)) := by
  unfold powers word
  rw [← counting_apply]
  rfl

theorem candidates_apply (a : FVec Ideal S512x1 .f32) (r : Fin 512) (k : Fin 256) : candidates a (ix2 r k)
    = if Ideal.ofBits .f32 (word (BitVec.ofNat 32 k.val)) ≤ a (ix2 r 0) * recip448 then BitVec.ofNat 32 k.val else 0#32 := by
  unfold candidates
  rw [select_ole, spread_row, spread_column, spread_row, shapeCast_self, powers_apply, counting_apply]
  rfl

/-- The exponent fields as vectors. -/
theorem field_eq (a : FVec Ideal S512x1 .f32) : k0_pay8 (F := Ideal) a
    = select (cmpf .ole a (broadcast S512x1 largest))
        (shapeCast S512x1 (multiReductionI .maxsi [1] S512 (candidates a) 2147483648#32 reduces_S512x256_S512 rfl) shapeCasts_S512_S512x1)
        (broadcast S512x1 255#32) := rfl

/-- The exponent field of a row, from the row's largest magnitude. -/
theorem field_apply (a : FVec Ideal S512x1 .f32) (r : Fin 512) : k0_pay8 (F := Ideal) a (ix2 r 0) = field (a (ix2 r 0)) := by
  rw [field_eq, select_ole, maxi_column (candidates a) 2147483648#32 reduces_S512x256_S512 rfl shapeCasts_S512_S512x1 r]
  unfold field largestPower
  simp only [candidates_apply]
  rfl

/-- The scale of a row, from the row's largest magnitude. -/
theorem scaleOf_apply (a : Vec Ideal S512x1 .f32) (r : Fin 512) : k0_pay10 (F := Ideal) a (ix2 r 0) = scaleOf (field (a (ix2 r 0))) := by
  rw [← field_apply]
  unfold scaleOf word
  rfl

/-- The reciprocal scale of a row, from the row's largest magnitude. -/
theorem inverseOf_apply (a : Vec Ideal S512x1 .f32) (r : Fin 512) : k0_pay11 (F := Ideal) a (ix2 r 0) = inverseOf (field (a (ix2 r 0))) := by
  rw [← field_apply]
  unfold inverseOf word
  rfl

/-- The largest magnitude of each row of a block of `x`. -/
def rowMaxima (p : Vec Ideal S512x4608 .bf16) : FVec Ideal S512x1 .f32 :=
  extf .f32 (shapeCast S512x1 (multiReduction .maximumf [1] S512 (absf (k0_pay3 p)) 0xFF80#16 reduces_S512x4608_S512 (.inr rfl) rfl)
    shapeCasts_S512_S512x1) bitsLt_bf16_f32

theorem rowMaxima_apply (p : Vec Ideal S512x4608 .bf16) (r : Fin 512) : rowMaxima p (ix2 r 0) = rowMax fun k => p (ix2 r k) := by
  have e : ∀ v : FVec Ideal S512x1 .bf16, extf .f32 v bitsLt_bf16_f32 (ix2 r 0) = v (ix2 r 0) := fun _ => rfl
  unfold rowMaxima
  rw [e, magnitude_column (k0_pay3 p) 0xFF80#16 neutral_bf16 reduces_S512x4608_S512 (.inr rfl) rfl shapeCasts_S512_S512x1 r]
  unfold k0_pay3
  rw [shapeCast_self]

/-- The scale of a row of `x`. -/
theorem xScale_apply (p : Vec Ideal S512x4608 .bf16) (r : Fin 512) : k0_pay6 p (ix2 r 0) = scale (rowMax fun k => p (ix2 r k)) := by
  have e : k0_pay6 p = k0_pay10 (rowMaxima p) := rfl
  rw [e, scaleOf_apply, rowMaxima_apply]
  exact (scale_eq _ (rowMax_nonneg _ 0)).1

/-- An element of a block quantised with its rows' reciprocal scales. -/
theorem code_apply (inv : FVec Ideal S512x1 .f32) (v : Vec Ideal S512x4608 .f32) (r : Fin 512) (k : Fin 4608) :
    k0_pay2 inv v (ix2 r k) = code (inv (ix2 r 0)) (v (ix2 r k)) := by
  rw [← spread_column inv broadcasts_S512x1_S512x4608 r k]
  rfl

/-- An element of the codes of a block of `x`. -/
theorem xCode_apply (p : Vec Ideal S512x4608 .bf16) (r : Fin 512) (k : Fin 4608) :
    codesOf p (ix2 r k) = code (inverse (rowMax fun k => p (ix2 r k))) (p (ix2 r k)) := by
  have e : codesOf p = k0_pay2 (k0_pay11 (rowMaxima p)) (extf .f32 (k0_pay3 p) bitsLt_bf16_f32) := rfl
  rw [e, code_apply, inverseOf_apply, rowMaxima_apply, (scale_eq _ (rowMax_nonneg _ 0)).2]
  unfold k0_pay3
  rw [shapeCast_self]
  rfl

/-- The scale of a row of the activations. -/
theorem hScale_apply (a : Vec Ideal S512x1 .f32) (r : Fin 512) (h : 0 ≤ a (ix2 r 0)) : k0_pay10 (F := Ideal) a (ix2 r 0) = scale (a (ix2 r 0)) := by
  rw [scaleOf_apply, (scale_eq _ h).1]

/-- An element of the codes of the activations. -/
theorem hCode_apply (a : Vec Ideal S512x1 .f32) (v : Vec Ideal S512x4608 .f32) (r : Fin 512) (k : Fin 4608) (h : 0 ≤ a (ix2 r 0)) :
    k0_pay2 (k0_pay11 a) v (ix2 r k) = code (inverse (a (ix2 r 0))) (v (ix2 r k)) := by
  rw [code_apply, inverseOf_apply, (scale_eq _ h).2]

/-- An element of a product of a block of codes with a tile of the weights. -/
theorem product_apply (a : FVec Ideal S512x4608 .fp8e4m3) (b : FVec Ideal S4608x512 .fp8e4m3) (r c : Fin 512) :
    matmul dot_S512x4608_S4608x512_S512x512_1_0_0_1_n_n none a b (constant S512x512 .f32 0x00000000#32) (ix2 r c)
      = ∑ k : Fin 4608, a (ix2 r k) * b (ix2 k c) := by
  pointwise

/-- An element of an activation tile. -/
theorem tile_apply (xc : Vec Ideal S512x4608 .fp8e4m3) (xs : Vec Ideal S512x1 .f32) (wg wu : Vec Ideal S4608x512 .fp8e4m3)
    (sg su : Vec Ideal S1x512 .f32) (r c : Fin 512) :
    k0_pay14 xc xs wg wu sg su (ix2 r c)
      = gated ((∑ k : Fin 4608, xc (ix2 r k) * wg (ix2 k c)) * xs (ix2 r 0) * sg (ix2 0 c))
          ((∑ k : Fin 4608, xc (ix2 r k) * wu (ix2 k c)) * xs (ix2 r 0) * su (ix2 0 c)) := by
  rw [← product_apply xc wg, ← product_apply xc wu, ← spread_column xs broadcasts_S512x1_S512x512 r c,
    ← spread_row sg broadcasts_S1x512_S512x512 r c, ← spread_row su broadcasts_S1x512_S512x512 r c]
  unfold k0_pay14
  rw [shapeCast_self, shapeCast_self, shapeCast_self, shapeCast_self]
  rfl

/-- The tile as it is put into the activation buffer. -/
theorem tile_stored (xc : Vec Ideal S512x4608 .fp8e4m3) (xs : Vec Ideal S512x1 .f32) (wg wu : Vec Ideal S4608x512 .fp8e4m3)
    (sg su : Vec Ideal S1x512 .f32) : k0_pay15 xc xs wg wu sg su = k0_pay14 xc xs wg wu sg su := by
  unfold k0_pay15
  exact shapeCast_self _ _

/-- A running row maximum after a tile. -/
theorem stepMax_apply (p : Vec Ideal S512x1 .f32) (xc : Vec Ideal S512x4608 .fp8e4m3) (xs : Vec Ideal S512x1 .f32) (wg wu : Vec Ideal S4608x512 .fp8e4m3)
    (sg su : Vec Ideal S1x512 .f32) (r : Fin 512) :
    stepMax p xc xs wg wu sg su (ix2 r 0) = max (p (ix2 r 0)) (rowMax fun c => k0_pay14 xc xs wg wu sg su (ix2 r c)) := by
  unfold stepMax k0_pay1
  rw [shapeCast_self]
  show max (p (ix2 r 0)) (k0_pay16 xc xs wg wu sg su (ix2 r 0)) = _
  have e : k0_pay16 xc xs wg wu sg su = shapeCast S512x1 (multiReduction .maximumf [1] S512 (absf (k0_pay14 xc xs wg wu sg su))
      0xFF800000#32 reduces_S512x512_S512 (.inl rfl) rfl) shapeCasts_S512_S512x1 := rfl
  rw [e, magnitude_column (k0_pay14 xc xs wg wu sg su) 0xFF800000#32 neutral_f32 reduces_S512x512_S512 (.inl rfl) rfl shapeCasts_S512_S512x1 r]

/-- The running row maximum starts at zero. -/
theorem start_apply (r : Fin 512) : (k0_pay13 : FVec Ideal S512x1 .f32) (ix2 r 0) = 0 := by
  unfold k0_pay13
  rw [shapeCast_self]
  show Ideal.ofBits .f32 0x00000000#32 = 0
  rw [ofBits_f32]
  simp [Ideal.ieee]

end Cert.KernelIdeal.Hand
-- ==== Proof.KernelIdeal.Arrays.lean ====
module

public import proofs.«01_k».proof.Proof.KernelIdeal.Values

@[expose] public section

set_option maxRecDepth 16384

/-! The kernel's result arrays, element by element, as functions of the arrays the region finds. -/

noncomputable section

namespace Cert.KernelIdeal.Hand

open Cert.KernelIdeal Cert.KernelIdeal.Gen Cert.Buffers Cert.Formula Cert.Scale Cert.RowOps
open Idealize.ShloMosaic Idealize.ShloMosaic.TcCoe
open Idealize.ShloMosaic.Pipeline (Dat Cfg Window BodyObligation cellOf)

variable (m : (ℓ : Loc nD τ sig) → Buf (Elt Ideal) ℓ) (c : Dev nD)

/-- The input, the weights and the weights' scales, as the region finds them. -/
def xOf : Fin 12288 → Fin 4608 → EReal := fun r k => V m c main_v0 (ix2 r k)
def wOf : Fin 4608 → Fin 9216 → EReal := fun k n => V m c main_arg1 (ix2 k n)
def sOf : Fin 9216 → EReal := fun n => V m c main_v1 (ix2 0 n)

/-- The row of the input that a row of a point's block is. -/
def rowOf (t : Fin cfg0.N) (r : Fin 512) : Fin 12288 :=
  ⟨512 * (t.val / 9) + r.val, by have := lt_216 t; have := r.isLt; omega⟩

/-- The column of the activations that a column of a point's tile is. -/
def colOf (t : Fin cfg0.N) (k : Fin 512) : Fin 4608 :=
  ⟨512 * (t.val % 9) + k.val, by have := Nat.mod_lt t.val (show 0 < 9 by decide); have := k.isLt; omega⟩

theorem rowOf_start (t : Fin cfg0.N) (r : Fin 512) : rowOf (rowStart t) r = rowOf t r :=
  Fin.ext (by show 512 * (9 * (t.val / 9) / 9) + r.val = 512 * (t.val / 9) + r.val; omega)

/-! ## The windows' blocks -/

theorem first (t : Fin cfg0.N) : (BitVec.ofNat 32 (grid0.coords t 0).val).toNat = t.val / 9 := by
  rw [coords0, BitVec.toNat_ofNat]
  have := lt_216 t
  omega

theorem second (t : Fin cfg0.N) : (BitVec.ofNat 32 (grid0.coords t 1).val).toNat = t.val % 9 := by
  rw [coords1, BitVec.toNat_ofNat]
  have := lt_216 t
  omega

theorem third (t : Fin cfg0.N) : (Scalar.addi (BitVec.ofNat 32 (grid0.coords t 1).val) 9#32).toNat = t.val % 9 + 9 := by
  show (BitVec.ofNat 32 (grid0.coords t 1).val + 9#32).toNat = _
  rw [BitVec.toNat_add, second]
  have := lt_216 t
  show (t.val % 9 + 9) % 4294967296 = _
  omega

/-- The blocks' places: a block of rows, and two tiles of columns, one in each half of the weights. -/
theorem blk_x (t : Fin cfg0.N) (r : Fin 512) (k : Fin 4608) : iblk m c 0 t (ix2 r k) = xOf m c (rowOf t r) k := by
  refine congrArg (V m c main_v0) (funext fun a => Fin.ext ?_)
  refine ((cfg0.win 0).rect_emb_val t (ix2 r k) a).trans ?_
  match a with
  | ⟨0, _⟩ =>
    show (BitVec.ofNat 32 (grid0.coords t 0).val).toNat * 512 + r.val = 512 * (t.val / 9) + r.val
    rw [first]; omega
  | ⟨1, _⟩ =>
    show 0 * 4608 + k.val = k.val
    omega

theorem blk_wg (t : Fin cfg0.N) (k : Fin 4608) (n : Fin 512) : iblk m c 1 t (ix2 k n) = wOf m c k (gateCol (colOf t n)) := by
  refine congrArg (V m c main_arg1) (funext fun a => Fin.ext ?_)
  refine ((cfg0.win 1).rect_emb_val t (ix2 k n) a).trans ?_
  match a with
  | ⟨0, _⟩ =>
    show 0 * 4608 + k.val = k.val
    omega
  | ⟨1, _⟩ =>
    show (BitVec.ofNat 32 (grid0.coords t 1).val).toNat * 512 + n.val = 512 * (t.val % 9) + n.val
    rw [second]; omega

theorem blk_wu (t : Fin cfg0.N) (k : Fin 4608) (n : Fin 512) : iblk m c 2 t (ix2 k n) = wOf m c k (upCol (colOf t n)) := by
  refine congrArg (V m c main_arg1) (funext fun a => Fin.ext ?_)
  refine ((cfg0.win 2).rect_emb_val t (ix2 k n) a).trans ?_
  match a with
  | ⟨0, _⟩ =>
    show 0 * 4608 + k.val = k.val
    omega
  | ⟨1, _⟩ =>
    show (Scalar.addi (BitVec.ofNat 32 (grid0.coords t 1).val) 9#32).toNat * 512 + n.val = 4608 + (512 * (t.val % 9) + n.val)
    rw [third]; omega

theorem blk_sg (t : Fin cfg0.N) (n : Fin 512) : iblk m c 3 t (ix2 0 n) = sOf m c (gateCol (colOf t n)) := by
  refine congrArg (V m c main_v1) (funext fun a => Fin.ext ?_)
  refine ((cfg0.win 3).rect_emb_val t (ix2 0 n) a).trans ?_
  match a with
  | ⟨0, _⟩ => rfl
  | ⟨1, _⟩ =>
    show (BitVec.ofNat 32 (grid0.coords t 1).val).toNat * 512 + n.val = 512 * (t.val % 9) + n.val
    rw [second]; omega

theorem blk_su (t : Fin cfg0.N) (n : Fin 512) : iblk m c 4 t (ix2 0 n) = sOf m c (upCol (colOf t n)) := by
  refine congrArg (V m c main_v1) (funext fun a => Fin.ext ?_)
  refine ((cfg0.win 4).rect_emb_val t (ix2 0 n) a).trans ?_
  match a with
  | ⟨0, _⟩ => rfl
  | ⟨1, _⟩ =>
    show (Scalar.addi (BitVec.ofNat 32 (grid0.coords t 1).val) 9#32).toNat * 512 + n.val = 4608 + (512 * (t.val % 9) + n.val)
    rw [third]; omega

/-! ## The buffers at a point -/

/-- The codes of the row block of `x`. -/
theorem xCodes_apply (t : Fin cfg0.N) (r : Fin 512) (k : Fin 4608) : xCodes m c t (ix2 r k) = xCode (xOf m c) (rowOf t r) k := by
  unfold xCodes
  rw [xCode_apply]
  simp only [blk_x, rowOf_start]
  rfl

/-- The scales of the row block of `x`. -/
theorem xScales_apply (t : Fin cfg0.N) (r : Fin 512) : xScales m c t (ix2 r 0) = xScale (xOf m c) (rowOf t r) := by
  unfold xScales
  rw [xScale_apply]
  simp only [blk_x, rowOf_start]
  rfl

/-- The activation tile of a point. -/
theorem tileAt_apply (t : Fin cfg0.N) (r n : Fin 512) :
    k0_pay14 (xCodes m c t) (xScales m c t) (iblk m c 1 t) (iblk m c 2 t) (iblk m c 3 t) (iblk m c 4 t) (ix2 r n)
      = act (xOf m c) (wOf m c) (sOf m c) (rowOf t r) (colOf t n) := by
  rw [tile_apply]
  simp only [xCodes_apply, xScales_apply, blk_wg, blk_wu, blk_sg, blk_su]
  rfl

/-- The activations of a row block. -/
theorem activations_apply (t : Fin cfg0.N) (r : Fin 512) (k : Fin 4608) :
    activations m c t (ix2 r k) = act (xOf m c) (wOf m c) (sOf m c) (rowOf t r) k := by
  have hk := k.isLt
  have e1 : rowOf (tilePoint t k) r = rowOf t r := Fin.ext (by
    show 512 * ((9 * (t.val / 9) + k.val / 512) / 9) + r.val = 512 * (t.val / 9) + r.val
    omega)
  have e2 : colOf (tilePoint t k) ⟨k.val % 512, Nat.mod_lt _ (by decide)⟩ = k := Fin.ext (by
    show 512 * ((9 * (t.val / 9) + k.val / 512) % 9) + k.val % 512 = k.val
    omega)
  show tile m c (tilePoint t k) (ix2 r ⟨k.val % 512, Nat.mod_lt _ (by decide)⟩) = _
  unfold tile
  rw [tile_stored, tileAt_apply, e1, e2]

/-- A running row maximum after a tile is at most `b` exactly when it was before and the tile's magnitudes are. -/
theorem stepAt_le (t : Fin cfg0.N) (p : Vec Ideal S512x1 .f32) (r : Fin 512) (b : EReal) : stepAt m c t p (ix2 r 0) ≤ b
    ↔ p (ix2 r 0) ≤ b ∧ ∀ n : Fin 512, mag (act (xOf m c) (wOf m c) (sOf m c) (rowOf t r) (colOf t n)) ≤ b := by
  unfold stepAt
  rw [stepMax_apply, max_le_iff, rowMax_le]
  simp only [tileAt_apply]

/-- The running row maximum bounds the magnitudes of the tiles done so far, and is the least such bound that is not negative. -/
theorem maxAt_le (n : ℕ) (hn : n < cfg0.N) (r : Fin 512) (b : EReal) : maxAt m c n hn (ix2 r 0) ≤ b
    ↔ 0 ≤ b ∧ ∀ k : Fin 4608, k.val < 512 * (n % 9 + 1) → mag (act (xOf m c) (wOf m c) (sOf m c) (rowOf ⟨n, hn⟩ r) k) ≤ b := by
  have tiles : ∀ t : Fin cfg0.N, (∀ k : Fin 512, mag (act (xOf m c) (wOf m c) (sOf m c) (rowOf t r) (colOf t k)) ≤ b)
      ↔ ∀ k : Fin 4608, 512 * (t.val % 9) ≤ k.val → k.val < 512 * (t.val % 9 + 1) →
        mag (act (xOf m c) (wOf m c) (sOf m c) (rowOf t r) k) ≤ b := fun t => by
    constructor
    · intro h k h0 h1
      have e : colOf t ⟨k.val - 512 * (t.val % 9), by omega⟩ = k := Fin.ext (by
        show 512 * (t.val % 9) + (k.val - 512 * (t.val % 9)) = k.val; omega)
      rw [← e]; exact h _
    · intro h k
      have := k.isLt
      exact h _ (Nat.le_add_right _ _) (by show 512 * (t.val % 9) + k.val < _; omega)
  induction n with
  | zero =>
    rw [maxAt_first m c ⟨0, hn⟩ rfl, stepAt_le, start_apply, tiles]
    exact and_congr_right fun _ => ⟨fun h k hk => h k (Nat.zero_le _) hk, fun h k _ hk => h k hk⟩
  | succ n ih =>
    by_cases h9 : (n + 1) % 9 = 0
    · rw [maxAt_first m c ⟨n + 1, hn⟩ h9, stepAt_le, start_apply, tiles]
      exact and_congr_right fun _ => ⟨fun h k hk => h k (by show 512 * ((n + 1) % 9) ≤ _; omega) hk, fun h k _ hk => h k hk⟩
    · have hn' : n < cfg0.N := Nat.lt_of_succ_lt hn
      have er : rowOf ⟨n, hn'⟩ r = rowOf ⟨n + 1, hn⟩ r := Fin.ext (by
        show 512 * (n / 9) + r.val = 512 * ((n + 1) / 9) + r.val; omega)
      rw [maxAt_next m c ⟨n + 1, hn⟩ h9, stepAt_le, tiles]
      refine (and_congr_left fun _ => ih hn').trans ?_
      rw [er]
      constructor
      · rintro ⟨⟨h0, h1⟩, h2⟩
        refine ⟨h0, fun k hk => ?_⟩
        by_cases hlt : k.val < 512 * (n % 9 + 1)
        · exact h1 k hlt
        · exact h2 k (by show 512 * ((n + 1) % 9) ≤ _; omega) hk
      · rintro ⟨h0, h1⟩
        exact ⟨⟨h0, fun k hk => h1 k (by omega)⟩, fun k _ hk => h1 k hk⟩

/-- At the last tile the running row maximum is the row's largest magnitude. -/
theorem maxAt_last (t : Fin cfg0.N) (h : t.val % 9 = 8) (r : Fin 512) :
    maxAt m c t.val t.isLt (ix2 r 0) = rowMax (act (xOf m c) (wOf m c) (sOf m c) (rowOf t r)) := by
  refine eq_of_forall_ge_iff fun b => ?_
  rw [maxAt_le, rowMax_le]
  constructor
  · rintro ⟨_, h1⟩ k
    exact h1 k (by have := k.isLt; omega)
  · intro h1
    exact ⟨le_trans (mag_nonneg _) (h1 0), fun k _ => h1 k⟩

/-! ## The arrays -/

/-- An index of a matrix by its coordinates. -/
theorem ix2_eta {R C : Nat} (y : (⟨2, ![R, C]⟩ : Shape).Idx) : y = ix2 (y 0) (y 1) := by
  funext a
  match a with
  | ⟨0, _⟩ => rfl
  | ⟨1, _⟩ => rfl

/-- An index of a column by its row. -/
theorem ix2_column {R : Nat} (y : (⟨2, ![R, 1]⟩ : Shape).Idx) : y = ix2 (y 0) 0 := by
  funext a
  match a with
  | ⟨0, _⟩ => rfl
  | ⟨1, _⟩ => exact Subsingleton.elim (α := Fin 1) _ _

/-- The scales of the activations. -/
theorem array5 : (dats m 0 c).arrAt 5 cfg0.N = fun i => hScale (xOf m c) (wOf m c) (sOf m c) (i 0) := by
  refine (dats m 0 c).arrAt_eq_of_covers 5 _ (by decide +kernel) fun t hf y => ?_
  obtain ⟨r, rfl⟩ : ∃ r : Fin 512, y = ix2 r 0 := ⟨y 0, ix2_column y⟩
  have hb : ((((cfg0.win 5).blk t).view.emb (ix2 r 0)) 0 : Nat) = 512 * (t.val / 9) + r.val := by
    refine ((cfg0.win 5).rect_emb_val t (ix2 r 0) 0).trans ?_
    show (BitVec.ofNat 32 (grid0.coords t 0).val).toNat * 512 + r.val = _
    rw [first]; omega
  have e0 : (((cfg0.win 5).blk t).view.emb (ix2 r 0)) 0 = rowOf t r := Fin.ext hb
  rw [e0, after0_5]
  have hm := maxAt_last m c t ((flush0_5 t).mp hf) r
  have h0 : 0 ≤ maxAt m c t.val t.isLt (ix2 r 0) := by rw [hm]; exact rowMax_nonneg _ 0
  exact (hScale_apply _ r h0).trans (congrArg scale hm)

/-- The codes of the activations. -/
theorem array6 : (dats m 0 c).arrAt 6 cfg0.N = fun i => hCode (xOf m c) (wOf m c) (sOf m c) (i 0) (i 1) := by
  refine (dats m 0 c).arrAt_eq_of_covers 6 _ (by decide +kernel) fun t hf y => ?_
  obtain ⟨r, k, rfl⟩ : ∃ (r : Fin 512) (k : Fin 4608), y = ix2 r k := ⟨y 0, y 1, ix2_eta y⟩
  have hb : ((((cfg0.win 6).blk t).view.emb (ix2 r k)) 0 : Nat) = 512 * (t.val / 9) + r.val := by
    refine ((cfg0.win 6).rect_emb_val t (ix2 r k) 0).trans ?_
    show (BitVec.ofNat 32 (grid0.coords t 0).val).toNat * 512 + r.val = _
    rw [first]; omega
  have hc : ((((cfg0.win 6).blk t).view.emb (ix2 r k)) 1 : Nat) = k.val := by
    refine ((cfg0.win 6).rect_emb_val t (ix2 r k) 1).trans ?_
    show 0 * 4608 + k.val = _
    omega
  have e0 : (((cfg0.win 6).blk t).view.emb (ix2 r k)) 0 = rowOf t r := Fin.ext hb
  have e1 : (((cfg0.win 6).blk t).view.emb (ix2 r k)) 1 = k := Fin.ext hc
  rw [e0, e1, after0_6]
  have hm := maxAt_last m c t ((flush0_6 t).mp hf) r
  have h0 : 0 ≤ maxAt m c t.val t.isLt (ix2 r 0) := by rw [hm]; exact rowMax_nonneg _ 0
  exact (hCode_apply _ _ r k h0).trans (by rw [hm, activations_apply]; rfl)

/-- The codes of the input. -/
theorem array7 : (dats m 0 c).arrAt 7 cfg0.N = fun i => xCode (xOf m c) (i 0) (i 1) := by
  refine (dats m 0 c).arrAt_eq_of_covers 7 _ (by decide +kernel) fun t hf y => ?_
  obtain ⟨r, k, rfl⟩ : ∃ (r : Fin 512) (k : Fin 4608), y = ix2 r k := ⟨y 0, y 1, ix2_eta y⟩
  have hb : ((((cfg0.win 7).blk t).view.emb (ix2 r k)) 0 : Nat) = 512 * (t.val / 9) + r.val := by
    refine ((cfg0.win 7).rect_emb_val t (ix2 r k) 0).trans ?_
    show (BitVec.ofNat 32 (grid0.coords t 0).val).toNat * 512 + r.val = _
    rw [first]; omega
  have hc : ((((cfg0.win 7).blk t).view.emb (ix2 r k)) 1 : Nat) = k.val := by
    refine ((cfg0.win 7).rect_emb_val t (ix2 r k) 1).trans ?_
    show 0 * 4608 + k.val = _
    omega
  have e0 : (((cfg0.win 7).blk t).view.emb (ix2 r k)) 0 = rowOf t r := Fin.ext hb
  have e1 : (((cfg0.win 7).blk t).view.emb (ix2 r k)) 1 = k := Fin.ext hc
  rw [e0, e1, after0_7]
  exact xCodes_apply m c t r k

/-- The scales of the input. -/
theorem array8 : (dats m 0 c).arrAt 8 cfg0.N = fun i => xScale (xOf m c) (i 0) := by
  refine (dats m 0 c).arrAt_eq_of_covers 8 _ (by decide +kernel) fun t hf y => ?_
  obtain ⟨r, rfl⟩ : ∃ r : Fin 512, y = ix2 r 0 := ⟨y 0, ix2_column y⟩
  have hb : ((((cfg0.win 8).blk t).view.emb (ix2 r 0)) 0 : Nat) = 512 * (t.val / 9) + r.val := by
    refine ((cfg0.win 8).rect_emb_val t (ix2 r 0) 0).trans ?_
    show (BitVec.ofNat 32 (grid0.coords t 0).val).toNat * 512 + r.val = _
    rw [first]; omega
  have e0 : (((cfg0.win 8).blk t).view.emb (ix2 r 0)) 0 = rowOf t r := Fin.ext hb
  rw [e0, after0_8]
  exact xScales_apply m c t r

end Cert.KernelIdeal.Hand
-- ==== Proof.KernelIdeal.Frame.lean ====
module

public import proofs.«01_k».proof.Proof.KernelIdeal.Contents
public import Idealize.ShloMosaic.Lib.Claim

@[expose] public section

set_option maxRecDepth 16384

noncomputable section

namespace Cert.KernelIdeal.Hand

open Cert.KernelIdeal Cert.KernelIdeal.Gen Cert.Buffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body's obligation at every grid point, the run of the program, and the frame. -/

/-- What the body is called with at point `t`. -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after0_4]
theorem leaves0_5_live (c : Dev nD) (t : Fin cfg0.N) (h : t.val % 9 = 8) :
    (dats m 0 c).leavesExact 5 t = owns (c : Thread nD τ) (st0_5 t) fullShare (k0_pay10 (maxAt m c t.val t.isLt)) := by
  unfold Dat.leavesExact; rw [(live_h t h).1, after0_5]
theorem leaves0_5_idle (c : Dev nD) (t : Fin cfg0.N) (h : ¬t.val % 9 = 8) (h' : ¬t.val % 9 = 8) :
    (dats m 0 c).leavesExact 5 t = iprop(∃ d, owns (c : Thread nD τ) (st0_5 t) fullShare ((dats m 0 c).before 5 t d)) :=
  Dat.leavesExact_idle (dats m 0 c) 5 t (idle_h t h).1 (noFlush t h').1
theorem leaves0_6_live (c : Dev nD) (t : Fin cfg0.N) (h : t.val % 9 = 8) :
    (dats m 0 c).leavesExact 6 t = owns (c : Thread nD τ) (st0_6 t) fullShare (k0_pay2 (k0_pay11 (maxAt m c t.val t.isLt)) (activations m c t)) := by
  unfold Dat.leavesExact; rw [(live_h t h).2, after0_6]
theorem leaves0_6_idle (c : Dev nD) (t : Fin cfg0.N) (h : ¬t.val % 9 = 8) (h' : ¬t.val % 9 = 8) :
    (dats m 0 c).leavesExact 6 t = iprop(∃ d, owns (c : Thread nD τ) (st0_6 t) fullShare ((dats m 0 c).before 6 t d)) :=
  Dat.leavesExact_idle (dats m 0 c) 6 t (idle_h t h).2 (noFlush t h').2.1
theorem leaves0_7_live (c : Dev nD) (t : Fin cfg0.N) (h : t.val % 9 = 0) :
    (dats m 0 c).leavesExact 7 t = owns (c : Thread nD τ) (st0_7 t) fullShare (xCodes m c t) := by
  unfold Dat.leavesExact; rw [(live_x t h).1, after0_7]
theorem leaves0_7_idle (c : Dev nD) (t : Fin cfg0.N) (h : ¬t.val % 9 = 0) (h' : ¬t.val % 9 = 8) :
    (dats m 0 c).leavesExact 7 t = iprop(∃ d, owns (c : Thread nD τ) (st0_7 t) fullShare ((dats m 0 c).before 7 t d)) :=
  Dat.leavesExact_idle (dats m 0 c) 7 t (idle_x t h).1 (noFlush t h').2.2.1
theorem leaves0_7_flush (c : Dev nD) (t : Fin cfg0.N) (h : t.val % 9 = 8) :
    (dats m 0 c).leavesExact 7 t = owns (c : Thread nD τ) (st0_7 t) fullShare (xCodes m c t) := by
  unfold Dat.leavesExact; rw [(idle_x t (by omega)).1, (flush0_7 t).mpr h, after0_7]
theorem leaves0_8_live (c : Dev nD) (t : Fin cfg0.N) (h : t.val % 9 = 0) :
    (dats m 0 c).leavesExact 8 t = owns (c : Thread nD τ) (st0_8 t) fullShare (xScales m c t) := by
  unfold Dat.leavesExact; rw [(live_x t h).2, after0_8]
theorem leaves0_8_idle (c : Dev nD) (t : Fin cfg0.N) (h : ¬t.val % 9 = 0) (h' : ¬t.val % 9 = 8) :
    (dats m 0 c).leavesExact 8 t = iprop(∃ d, owns (c : Thread nD τ) (st0_8 t) fullShare ((dats m 0 c).before 8 t d)) :=
  Dat.leavesExact_idle (dats m 0 c) 8 t (idle_x t h).2 (noFlush t h').2.2.2
theorem leaves0_8_flush (c : Dev nD) (t : Fin cfg0.N) (h : t.val % 9 = 8) :
    (dats m 0 c).leavesExact 8 t = owns (c : Thread nD τ) (st0_8 t) fullShare (xScales m c t) := by
  unfold Dat.leavesExact; rw [(idle_x t (by omega)).2, (flush0_8 t).mpr h, after0_8]
set_option maxHeartbeats 4000000 in
/-- The body at the first tile of a row block. -/
theorem sound_first (c : Dev nD) (t : Fin cfg0.N) (h0 : t.val % 9 = 0) :
    bodyPre m c t ⊢ wp frame (wpE (defs₀ (F := F)) Variants.none c none) Set.univ (bodyAt0 t) (fun _ => bodyPost m c t) := by
  have h8 : ¬t.val % 9 = 8 := by omega
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ, PhiS_castSucc]
  rw [leaves0_0, leaves0_1, leaves0_2, leaves0_3, leaves0_4]
  simp only [before0_0, before0_1, before0_2, before0_3, before0_4]
  rw [leaves0_5_idle m c t h8 h8, leaves0_6_idle m c t h8 h8, leaves0_7_live m c t h0, leaves0_8_live m c t h0, maxAt_first m c t h0]
  refine BIBase.Entails.trans (sep_mono_left (PhiS_any m c t.val (Nat.le_of_lt t.isLt))) ?_
  rw [PhiA0_eq]
  have hX : xCodes m c t = codesOf (iblk m c 0 t) := by unfold xCodes; rw [rowStart_first t h0]
  have hS : xScales m c t = k0_pay6 (iblk m c 0 t) := by unfold xScales; rw [rowStart_first t h0]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first c (grid0.coords t) _ _ _ _ _ _ _ _ _ _ _ _ _ _ _ _ _ _ _ _ _ _ _ _ _ _ _ _ _ _ _ _ _ Set.univ _ ((cond1_iff t).mpr h0) (fun h => h8 ((cond2_iff t).mp h)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  rw [← hX, ← hS]
  iintro ⟨H0, H1, H2, H3, H4, H5, H6, H7, H8, HS0, HS1⟩
  isplitl [HS0 HS1 Hg]
  · isplitl [HS0 HS1]
    · isplitl [HS0]
      · iexists ⟨_, filled_first m c t h0 _⟩; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexact H7
  iexact H8

set_option maxHeartbeats 4000000 in
/-- The body at a tile in the middle of a row block. -/
theorem sound_mid (c : Dev nD) (t : Fin cfg0.N) (h0 : ¬t.val % 9 = 0) (h8 : ¬t.val % 9 = 8) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ, PhiS_castSucc]
  rw [leaves0_0, leaves0_1, leaves0_2, leaves0_3, leaves0_4]
  have hz : t.val ≠ 0 := fun e => h0 (by rw [e])
  rw [leaves0_5_idle m c t h8 h8, leaves0_6_idle m c t h8 h8, leaves0_7_idle m c t h0 h8, leaves0_8_idle m c t h0 h8, maxAt_next m c t h0, PhiS_pos m c t hz]
  have b7 := before0_7 m c t.val t.isLt h0
  have b8 := before0_8 m c t.val t.isLt h0
  simp only [Fin.eta] at b7 b8
  simp only [before0_0, before0_1, before0_2, before0_3, before0_4, b7, b8]
  iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_mid c (grid0.coords t) _ _ _ _ _ _ _ _ _ _ _ _ _ _ _ _ _ _ _ _ _ _ _ _ _ _ _ _ _ _ _ _ _ Set.univ _ (fun h => h0 ((cond1_iff t).mp h)) (fun h => h8 ((cond2_iff t).mp h)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists ⟨_, filled_next m c t h0 _ e0.2⟩; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  iexists d8; iexact H8

set_option maxHeartbeats 4000000 in
/-- The body at the last tile of a row block. -/
theorem sound_last (c : Dev nD) (t : Fin cfg0.N) (h8 : t.val % 9 = 8) :
    bodyPre m c t ⊢ wp frame (wpE (defs₀ (F := F)) Variants.none c none) Set.univ (bodyAt0 t) (fun _ => bodyPost m c t) := by
  have h0 : ¬t.val % 9 = 0 := by omega
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ, PhiS_castSucc]
  rw [leaves0_0, leaves0_1, leaves0_2, leaves0_3, leaves0_4]
  have hz : t.val ≠ 0 := fun e => h0 (by rw [e])
  rw [leaves0_5_live m c t h8, leaves0_6_live m c t h8, leaves0_7_flush m c t h8, leaves0_8_flush m c t h8, maxAt_next m c t h0, PhiS_pos m c t hz]
  have b7 := before0_7 m c t.val t.isLt h0
  have b8 := before0_8 m c t.val t.isLt h0
  simp only [Fin.eta] at b7 b8
  simp only [before0_0, before0_1, before0_2, before0_3, before0_4, b7, b8]
  iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hA := filled_last m c t h8 _ (filled_next m c t h0 _ e0.2)
  rw [← hA]
  iapply (run_last c (grid0.coords t) _ _ _ _ _ _ _ _ _ _ _ _ _ _ _ _ _ _ _ _ _ _ _ _ _ _ _ _ _ _ _ _ _ Set.univ _ (fun h => h0 ((cond1_iff t).mp h)) ((cond2_iff t).mpr h8))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists ⟨_, filled_next m c t h0 _ e0.2⟩; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 9 = 0
  · exact sound_first m c t h0
  by_cases h8 : t.val % 9 = 8
  · exact sound_last m c t h8
  · exact sound_mid m c t h0 h8

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

set_option backward.isDefEq.respectTransparency.types false in
/-- Every execution ends with the pipeline's arrays at what the proof data says, every other array as the region found it, and
    every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, leaves the three arguments as they were, and has every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.ReferenceIdeal.Values.lean ====
module

public import proofs.«01_k».proof.Proof.Gen.ReferenceIdeal.Value
public import proofs.«01_k».proof.Proof.RowOps
public import proofs.«01_k».proof.Proof.Scale
public import Idealize.ShloMosaic.Lib.Pipeline.ValueKit.Geometry

@[expose] public section

set_option maxRecDepth 16384

/-! What the reference's expressions compute on extended reals, read at one row or at one element. -/

noncomputable section

namespace Cert.ReferenceIdeal.Hand

open Cert.ReferenceIdeal Cert.ReferenceIdeal.Gen Cert.Formula Cert.RowOps
open Idealize.ShloMosaic

theorem word_zero : Ideal.ofBits .f32 0x00000000#32 = 0 := by
  have e : Ideal.ofBits .f32 0x00000000#32 = Ideal.ieee 8 23 0x00000000#32 := rfl
  rw [e]
  simp [Ideal.ieee]

theorem word_one : Ideal.ofBits .f32 0x3F800000#32 = 1 := by
  have e := Scale.ofBits_normal 0x3F800000#32 127 0 (by decide) (by decide) (by decide) (by decide) (by decide)
  rw [e, ← EReal.coe_one, EReal.coe_eq_coe_iff]
  norm_num

theorem word_two : Ideal.ofBits .f32 0x40000000#32 = 2 := by
  have e := Scale.ofBits_normal 0x40000000#32 128 0 (by decide) (by decide) (by decide) (by decide) (by decide)
  have e2 : (2 : EReal) = ((2 : ℝ) : EReal) := rfl
  rw [e, e2, EReal.coe_eq_coe_iff]
  norm_num

/-- Operations on vectors, read at an element. -/
theorem exp2_apply {s : Shape} (v : FVec Ideal s .f32) (i : s.Idx) : exp2 v i = Ideal.exp2 (v i) := rfl
theorem mulf_apply {s : Shape} (v w : FVec Ideal s .f32) (i : s.Idx) : mulf v w i = v i * w i := rfl
theorem negative_apply {s : Shape} (v : FVec Ideal s .f32) (i : s.Idx) : subf (broadcast s (0 : Ideal .f32)) v i = 0 - v i := rfl
theorem clip_apply {s : Shape} (v : FVec Ideal s .f32) (lo hi : Ideal .f32) (h : FTy.fp8e4m3.bits < FTy.f32.bits) (i : s.Idx) :
    truncf .fp8e4m3 (minimumf (broadcast s hi) (maximumf (broadcast s lo) v)) h i = min hi (max lo (v i)) := rfl
theorem gated_at {s : Shape} (g u : FVec Ideal s .f32) (i : s.Idx) : mulf (mulf g (logistic g)) u i = gated (g i) (u i) := rfl
theorem extf_apply {s : Shape} (v : FVec Ideal s .bf16) (h : FTy.bf16.bits < FTy.f32.bits) (i : s.Idx) : extf .f32 v h i = v i := rfl

/-- Choosing where either of two decided conditions holds. -/
theorem select_or {α : Type} (p q : Prop) [Decidable p] [Decidable q] (a b : α) :
    Scalar.select (IntOp.ori (BitVec.ofBool (decide p)) (BitVec.ofBool (decide q))) a b = if p ∨ q then a else b := by
  by_cases hp : p
  · rw [if_pos (.inl hp), decide_eq_true hp]
    by_cases hq : q
    · rw [decide_eq_true hq]; rfl
    · rw [decide_eq_false hq]; rfl
  · rw [decide_eq_false hp]
    by_cases hq : q
    · rw [if_pos (.inr hq), decide_eq_true hq]; rfl
    · rw [if_neg (fun h => h.elim hp hq), decide_eq_false hq]; rfl

/-- The exponents of a vector of row maxima, as the reference writes them. -/
def exponents {s : Shape} (a : FVec Ideal s .f32) : FVec Ideal s .f32 :=
  select (ori (cmpf .olt (mulf a (broadcast s recip448)) (broadcast s tiny)) (cmpf .ogt a (broadcast s largest)))
    (broadcast s (Ideal.ofBits .f32 0x00000000#32))
    (addf (floor (divf (log (mulf a (broadcast s recip448))) (broadcast s (Scalar.log (F := Ideal) (φ := .f32) (Ideal.ofBits .f32 0x40000000#32)))))
      (broadcast s (Ideal.ofBits .f32 0x3F800000#32)))

theorem exponents_apply {s : Shape} (a : FVec Ideal s .f32) (i : s.Idx) : exponents a i = exponent (a i) := by
  unfold exponents
  rw [word_zero, word_one, word_two]
  exact select_or _ _ _ _

/-- Elements quantised with their rows' exponents, as the reference writes it. -/
def quantised (e : FVec Ideal S12288x1 .f32) (v : FVec Ideal S12288x4608 .f32) : FVec Ideal S12288x4608 .fp8e4m3 :=
  truncf .fp8e4m3 (minimumf (broadcast S12288x4608 (Ideal.ofBits .f32 0x43E00000#32)) (maximumf (broadcast S12288x4608 (Ideal.ofBits .f32 0xC3E00000#32))
    (mulf v (broadcastTo S12288x4608 (exp2 (subf (broadcast S12288x1 (Ideal.ofBits .f32 0x00000000#32)) e)) broadcasts_S12288x1_S12288x4608)))) bitsLt_fp8e4m3_f32

theorem quantised_apply (e : FVec Ideal S12288x1 .f32) (v : FVec Ideal S12288x4608 .f32) (r : Fin 12288) (k : Fin 4608) :
    quantised e v (ix2 r k) = code (Ideal.exp2 (0 - e (ix2 r 0))) (v (ix2 r k)) := by
  unfold quantised code
  rw [word_zero, clip_apply, mulf_apply, spread_column, exp2_apply, negative_apply]

/-- The largest magnitude of each row, as the reference writes it. -/
def rowMaxima (v : FVec Ideal S12288x4608 .f32) : FVec Ideal S12288x1 .f32 :=
  shapeCast S12288x1 (multiReduction .maximumf [1] S12288 (absf v) 0xFF800000#32 reduces_S12288x4608_S12288 (.inl rfl) rfl)
    shapeCasts_S12288_S12288x1

theorem rowMaxima_apply (v : FVec Ideal S12288x4608 .f32) (r : Fin 12288) : rowMaxima v (ix2 r 0) = rowMax fun k => v (ix2 r k) := by
  unfold rowMaxima
  rw [magnitude_column v 0xFF800000#32 neutral_f32 reduces_S12288x4608_S12288 (.inl rfl) rfl shapeCasts_S12288_S12288x1 r]

/-- The input widened. -/
theorem widened_apply (p : Vec Ideal S12288x4608 .bf16) (r : Fin 12288) (k : Fin 4608) :
    k0_pay1 (F := Ideal) p (ix2 r k) = p (ix2 r k) := by
  have e : k0_pay1 (F := Ideal) p = extf .f32 (shapeCast S12288x4608 p shapeCasts_S12288x4608_S12288x4608) bitsLt_bf16_f32 := by
    unfold k0_pay1; rfl
  rw [e, extf_apply, shapeCast_self]

theorem xExponents_eq (p : Vec Ideal S12288x4608 .bf16) : k0_pay2 (F := Ideal) p = exponents (rowMaxima (k0_pay1 p)) := by
  unfold k0_pay2 exponents rowMaxima
  rfl

theorem hExponents_eq (g u : FVec Ideal S12288x4608 .f32) : k0_pay9 (F := Ideal) g u = exponents (rowMaxima (k0_pay8 g u)) := by
  unfold k0_pay9 exponents rowMaxima
  rfl

theorem xCodes_eq (p : Vec Ideal S12288x4608 .bf16) : k0_pay4 (F := Ideal) p = quantised (k0_pay2 p) (k0_pay1 p) := by
  unfold k0_pay4 quantised
  rfl

theorem hCodes_eq (g u : FVec Ideal S12288x4608 .f32) : k0_pay11 (F := Ideal) g u = quantised (k0_pay9 g u) (k0_pay8 g u) := by
  unfold k0_pay11 quantised
  rfl

/-- The exponent of a row of the input. -/
theorem xExponents_apply (p : Vec Ideal S12288x4608 .bf16) (r : Fin 12288) :
    k0_pay2 (F := Ideal) p (ix2 r 0) = exponent (rowMax fun k => p (ix2 r k)) := by
  rw [xExponents_eq, exponents_apply, rowMaxima_apply]
  simp only [widened_apply]

/-- The exponent of a row of the activations. -/
theorem hExponents_apply (g u : FVec Ideal S12288x4608 .f32) (r : Fin 12288) :
    k0_pay9 (F := Ideal) g u (ix2 r 0) = exponent (rowMax fun k => k0_pay8 (F := Ideal) g u (ix2 r k)) := by
  rw [hExponents_eq, exponents_apply, rowMaxima_apply]

/-- The scale of a row of the input. -/
theorem xScale_apply (p : Vec Ideal S12288x4608 .bf16) (r : Fin 12288) :
    k0_pay3 (F := Ideal) p (ix2 r 0) = scale (rowMax fun k => p (ix2 r k)) := by
  have e : k0_pay3 (F := Ideal) p = exp2 (k0_pay2 p) := by unfold k0_pay3; rfl
  rw [e, exp2_apply, xExponents_apply, scale]

/-- The scale of a row of the activations. -/
theorem hScale_apply (g u : FVec Ideal S12288x4608 .f32) (r : Fin 12288) :
    k0_pay10 (F := Ideal) g u (ix2 r 0) = scale (rowMax fun k => k0_pay8 (F := Ideal) g u (ix2 r k)) := by
  have e : k0_pay10 (F := Ideal) g u = exp2 (k0_pay9 g u) := by unfold k0_pay10; rfl
  rw [e, exp2_apply, hExponents_apply, scale]

/-- An element of the codes of the input. -/
theorem xCode_apply (p : Vec Ideal S12288x4608 .bf16) (r : Fin 12288) (k : Fin 4608) :
    k0_pay4 (F := Ideal) p (ix2 r k) = code (inverse (rowMax fun k => p (ix2 r k))) (p (ix2 r k)) := by
  rw [xCodes_eq, quantised_apply, xExponents_apply, widened_apply, inverse]

/-- An element of the codes of the activations. -/
theorem hCode_apply (g u : FVec Ideal S12288x4608 .f32) (r : Fin 12288) (k : Fin 4608) :
    k0_pay11 (F := Ideal) g u (ix2 r k)
      = code (inverse (rowMax fun k => k0_pay8 (F := Ideal) g u (ix2 r k))) (k0_pay8 (F := Ideal) g u (ix2 r k)) := by
  rw [hCodes_eq, quantised_apply, hExponents_apply, inverse]

/-- An element of the gated product. -/
theorem gated_apply (g u : FVec Ideal S12288x4608 .f32) (i : S12288x4608.Idx) : k0_pay8 (F := Ideal) g u i = gated (g i) (u i) := by
  have e : k0_pay8 (F := Ideal) g u = mulf (mulf g (logistic g)) u := by unfold k0_pay8; rfl
  rw [e, gated_at]

/-- An element of the product of the codes with the weights. -/
theorem dot_apply (a : FVec Ideal S12288x4608 .fp8e4m3) (b : FVec Ideal S4608x9216 .fp8e4m3) (r : Fin 12288) (n : Fin 9216) :
    matmul dot_S12288x4608_S4608x9216_S12288x9216_1_0_0_1_n_n none a b (constant S12288x9216 .f32 0x00000000#32) (ix2 r n)
      = ∑ k : Fin 4608, a (ix2 r k) * b (ix2 k n) := by
  pointwise

/-- An element of the rescaled product. -/
theorem product_apply (p : Vec Ideal S12288x4608 .bf16) (w : Vec Ideal S4608x9216 .fp8e4m3) (s : Vec Ideal S1x9216 .f32) (r : Fin 12288) (n : Fin 9216) :
    k0_pay5 (F := Ideal) p w s (ix2 r n)
      = (∑ k : Fin 4608, k0_pay4 (F := Ideal) p (ix2 r k) * w (ix2 k n)) * k0_pay3 (F := Ideal) p (ix2 r 0) * s (ix2 0 n) := by
  have e : k0_pay5 (F := Ideal) p w s = mulf (mulf
      (matmul (φ₁ := .fp8e4m3) (φ₂ := .fp8e4m3) dot_S12288x4608_S4608x9216_S12288x9216_1_0_0_1_n_n none (k0_pay4 p) w (constant S12288x9216 .f32 0x00000000#32))
      (broadcastTo S12288x9216 (k0_pay3 p) broadcasts_S12288x1_S12288x9216))
      (broadcastTo S12288x9216 (shapeCast S1x9216 s shapeCasts_S1x9216_S1x9216) broadcasts_S1x9216_S12288x9216) := by
    unfold k0_pay5; rfl
  rw [e, mulf_apply, mulf_apply, dot_apply, spread_column, spread_row, shapeCast_self]

/-- The two halves of the product. -/
theorem gate_apply (p : Vec Ideal S12288x4608 .bf16) (w : Vec Ideal S4608x9216 .fp8e4m3) (s : Vec Ideal S1x9216 .f32) (r : Fin 12288) (n : Fin 4608) :
    k0_pay6 (F := Ideal) p w s (ix2 r n) = k0_pay5 (F := Ideal) p w s (ix2 r (gateCol n)) := by
  unfold k0_pay6
  pointwise

theorem up_apply (p : Vec Ideal S12288x4608 .bf16) (w : Vec Ideal S4608x9216 .fp8e4m3) (s : Vec Ideal S1x9216 .f32) (r : Fin 12288) (n : Fin 4608) :
    k0_pay7 (F := Ideal) p w s (ix2 r n) = k0_pay5 (F := Ideal) p w s (ix2 r (upCol n)) := by
  unfold k0_pay7
  pointwise

end Cert.ReferenceIdeal.Hand
-- ==== Proof.ReferenceIdeal.Arrays.lean ====
module

public import proofs.«01_k».proof.Proof.ReferenceIdeal.Values
public import proofs.«01_k».proof.Proof.Buffers

@[expose] public section

set_option maxRecDepth 16384

/-! The reference's result arrays, element by element, as functions of the arrays its region finds. -/

noncomputable section

namespace Cert.ReferenceIdeal.Hand

open Cert.ReferenceIdeal Cert.ReferenceIdeal.Gen Cert.Formula Cert.RowOps Cert.Buffers
open Idealize.ShloMosaic Idealize.ShloMosaic.TcCoe
open Idealize.ShloMosaic.Pipeline (Dat)

variable (m : (ℓ : Loc nD τ sig) → Buf (Elt Ideal) ℓ) (c : Dev nD)

/-- The input, the weights and the weights' scales, as the region finds them. -/
def xOf : Fin 12288 → Fin 4608 → EReal := fun r k => V m c main_v0 (ix2 r k)
def wOf : Fin 4608 → Fin 9216 → EReal := fun k n => V m c main_arg1 (ix2 k n)
def sOf : Fin 9216 → EReal := fun n => V m c main_v1 (ix2 0 n)

/-! ## The windows' blocks: each the whole array -/

theorem blk_x (t : Fin cfg0.N) (r : Fin 12288) (k : Fin 4608) : iblk m c 0 t (ix2 r k) = xOf m c r k := by
  refine congrArg (V m c main_v0) (funext fun a => Fin.ext ?_)
  refine ((cfg0.win 0).rect_emb_val t (ix2 r k) a).trans ?_
  match a with
  | ⟨0, _⟩ =>
    show 0 * 12288 + r.val = r.val
    omega
  | ⟨1, _⟩ =>
    show 0 * 4608 + k.val = k.val
    omega

theorem blk_w (t : Fin cfg0.N) (k : Fin 4608) (n : Fin 9216) : iblk m c 1 t (ix2 k n) = wOf m c k n := by
  refine congrArg (V m c main_arg1) (funext fun a => Fin.ext ?_)
  refine ((cfg0.win 1).rect_emb_val t (ix2 k n) a).trans ?_
  match a with
  | ⟨0, _⟩ =>
    show 0 * 4608 + k.val = k.val
    omega
  | ⟨1, _⟩ =>
    show 0 * 9216 + n.val = n.val
    omega

theorem blk_s (t : Fin cfg0.N) (n : Fin 9216) : iblk m c 2 t (ix2 0 n) = sOf m c n := by
  refine congrArg (V m c main_v1) (funext fun a => Fin.ext ?_)
  refine ((cfg0.win 2).rect_emb_val t (ix2 0 n) a).trans ?_
  match a with
  | ⟨0, _⟩ => rfl
  | ⟨1, _⟩ =>
    show 0 * 9216 + n.val = n.val
    omega

/-! ## The buffers after the body -/

theorem ld_x (p : Vec Ideal S12288x4608 .bf16) : View.ld p r0_0 = p := View.ld_unit_zero zero2 inb_S12288x4608_S12288x4608_0_0 p
theorem ld_w (p : Vec Ideal S4608x9216 .fp8e4m3) : View.ld p r0_1 = p := View.ld_unit_zero zero2 inb_S4608x9216_S4608x9216_0_0 p
theorem ld_s (p : Vec Ideal S1x9216 .f32) : View.ld p r0_2 = p := View.ld_unit_zero zero2 inb_S1x9216_S1x9216_0_0 p

variable (p : Vec Ideal S12288x4608 .bf16) (w : Vec Ideal S4608x9216 .fp8e4m3) (s : Vec Ideal S1x9216 .f32)

theorem out3_eq : out0_3 (F := Ideal) p w s = k0_pay10 (k0_pay6 p w s) (k0_pay7 p w s) := by
  unfold out0_3 Gen.k0_pay12 Gen.k0_pay13
  rw [View.canon_cons_unit_zero zero2, ld_x, ld_w, ld_s]

theorem out4_eq : out0_4 (F := Ideal) p w s = k0_pay11 (k0_pay6 p w s) (k0_pay7 p w s) := by
  unfold out0_4 Gen.k0_pay12 Gen.k0_pay13
  rw [View.canon_cons_unit_zero zero2, ld_x, ld_w, ld_s]

theorem out5_eq : out0_5 (F := Ideal) p w s = k0_pay4 p := by
  unfold out0_5
  rw [View.canon_cons_unit_zero zero2, ld_x]

theorem out6_eq : out0_6 (F := Ideal) p w s = k0_pay3 p := by
  unfold out0_6
  rw [View.canon_cons_unit_zero zero2, ld_x]

/-- The activations at an element. -/
theorem act_apply (t : Fin cfg0.N) (r : Fin 12288) (n : Fin 4608) :
    k0_pay8 (F := Ideal) (k0_pay6 (iblk m c 0 t) (iblk m c 1 t) (iblk m c 2 t)) (k0_pay7 (iblk m c 0 t) (iblk m c 1 t) (iblk m c 2 t)) (ix2 r n)
      = act (xOf m c) (wOf m c) (sOf m c) r n := by
  rw [gated_apply, gate_apply, up_apply, product_apply, product_apply, xScale_apply]
  simp only [xCode_apply, blk_x, blk_w, blk_s]
  rfl

/-! ## The arrays -/

/-- An index of a matrix by its coordinates. -/
theorem ix2_eta {R C : Nat} (y : (⟨2, ![R, C]⟩ : Shape).Idx) : y = ix2 (y 0) (y 1) := by
  funext a
  match a with
  | ⟨0, _⟩ => rfl
  | ⟨1, _⟩ => rfl

/-- An index of a column by its row. -/
theorem ix2_column {R : Nat} (y : (⟨2, ![R, 1]⟩ : Shape).Idx) : y = ix2 (y 0) 0 := by
  funext a
  match a with
  | ⟨0, _⟩ => rfl
  | ⟨1, _⟩ => exact Subsingleton.elim (α := Fin 1) _ _

/-- The row of the whole array that row `r` of the block is. -/
theorem row3 (t : Fin cfg0.N) (r : Fin 12288) : (((cfg0.win 3).blk t).view.emb (ix2 r 0)) 0 = r := by
  refine Fin.ext (((cfg0.win 3).rect_emb_val t (ix2 r 0) 0).trans ?_)
  show 0 * 12288 + r.val = r.val
  omega

/-- The buffer after the body, at an element. -/
theorem after3 (t : Fin cfg0.N) (r : Fin 12288) : (dats m 0 c).after 3 t (ix2 r 0) = hScale (xOf m c) (wOf m c) (sOf m c) r := by
  rw [after0_3, out3_eq, hScale_apply]
  unfold hScale
  simp only [act_apply]

/-- The scales of the activations. -/
theorem array3 : (dats m 0 c).arrAt 3 cfg0.N = fun i => hScale (xOf m c) (wOf m c) (sOf m c) (i 0) := by
  refine (dats m 0 c).arrAt_eq_of_covers 3 _ (by decide +kernel) fun t hf y => ?_
  obtain ⟨r, rfl⟩ : ∃ r : Fin 12288, y = ix2 r 0 := ⟨y 0, ix2_column y⟩
  rw [row3]
  exact after3 m c t r

/-- The row of the whole array that row `r` of the block is. -/
theorem row4 (t : Fin cfg0.N) (r : Fin 12288) (k : Fin 4608) : (((cfg0.win 4).blk t).view.emb (ix2 r k)) 0 = r := by
  refine Fin.ext (((cfg0.win 4).rect_emb_val t (ix2 r k) 0).trans ?_)
  show 0 * 12288 + r.val = r.val
  omega

/-- The column of the whole array that column `k` of the block is. -/
theorem column4 (t : Fin cfg0.N) (r : Fin 12288) (k : Fin 4608) : (((cfg0.win 4).blk t).view.emb (ix2 r k)) 1 = k := by
  refine Fin.ext (((cfg0.win 4).rect_emb_val t (ix2 r k) 1).trans ?_)
  show 0 * 4608 + k.val = k.val
  omega

/-- The buffer after the body, at an element. -/
theorem after4 (t : Fin cfg0.N) (r : Fin 12288) (k : Fin 4608) : (dats m 0 c).after 4 t (ix2 r k) = hCode (xOf m c) (wOf m c) (sOf m c) r k := by
  rw [after0_4, out4_eq, hCode_apply]
  unfold hCode
  simp only [act_apply]

/-- The codes of the activations. -/
theorem array4 : (dats m 0 c).arrAt 4 cfg0.N = fun i => hCode (xOf m c) (wOf m c) (sOf m c) (i 0) (i 1) := by
  refine (dats m 0 c).arrAt_eq_of_covers 4 _ (by decide +kernel) fun t hf y => ?_
  obtain ⟨r, k, rfl⟩ : ∃ (r : Fin 12288) (k : Fin 4608), y = ix2 r k := ⟨y 0, y 1, ix2_eta y⟩
  rw [row4, column4]
  exact after4 m c t r k

/-- The row of the whole array that row `r` of the block is. -/
theorem row5 (t : Fin cfg0.N) (r : Fin 12288) (k : Fin 4608) : (((cfg0.win 5).blk t).view.emb (ix2 r k)) 0 = r := by
  refine Fin.ext (((cfg0.win 5).rect_emb_val t (ix2 r k) 0).trans ?_)
  show 0 * 12288 + r.val = r.val
  omega

/-- The column of the whole array that column `k` of the block is. -/
theorem column5 (t : Fin cfg0.N) (r : Fin 12288) (k : Fin 4608) : (((cfg0.win 5).blk t).view.emb (ix2 r k)) 1 = k := by
  refine Fin.ext (((cfg0.win 5).rect_emb_val t (ix2 r k) 1).trans ?_)
  show 0 * 4608 + k.val = k.val
  omega

/-- The buffer after the body, at an element. -/
theorem after5 (t : Fin cfg0.N) (r : Fin 12288) (k : Fin 4608) : (dats m 0 c).after 5 t (ix2 r k) = xCode (xOf m c) r k := by
  rw [after0_5, out5_eq, xCode_apply]
  unfold xCode
  simp only [blk_x]

/-- The codes of the input. -/
theorem array5 : (dats m 0 c).arrAt 5 cfg0.N = fun i => xCode (xOf m c) (i 0) (i 1) := by
  refine (dats m 0 c).arrAt_eq_of_covers 5 _ (by decide +kernel) fun t hf y => ?_
  obtain ⟨r, k, rfl⟩ : ∃ (r : Fin 12288) (k : Fin 4608), y = ix2 r k := ⟨y 0, y 1, ix2_eta y⟩
  rw [row5, column5]
  exact after5 m c t r k

/-- The row of the whole array that row `r` of the block is. -/
theorem row6 (t : Fin cfg0.N) (r : Fin 12288) : (((cfg0.win 6).blk t).view.emb (ix2 r 0)) 0 = r := by
  refine Fin.ext (((cfg0.win 6).rect_emb_val t (ix2 r 0) 0).trans ?_)
  show 0 * 12288 + r.val = r.val
  omega

/-- The buffer after the body, at an element. -/
theorem after6 (t : Fin cfg0.N) (r : Fin 12288) : (dats m 0 c).after 6 t (ix2 r 0) = xScale (xOf m c) r := by
  rw [after0_6, out6_eq, xScale_apply]
  unfold xScale
  simp only [blk_x]

/-- The scales of the input. -/
theorem array6 : (dats m 0 c).arrAt 6 cfg0.N = fun i => xScale (xOf m c) (i 0) := by
  refine (dats m 0 c).arrAt_eq_of_covers 6 _ (by decide +kernel) fun t hf y => ?_
  obtain ⟨r, rfl⟩ : ∃ r : Fin 12288, y = ix2 r 0 := ⟨y 0, ix2_column y⟩
  rw [row6]
  exact after6 m c t r

end Cert.ReferenceIdeal.Hand
-- ==== Proof.Agreement.lean ====
module

public import proofs.«01_k».proof.Defs
public import proofs.«01_k».proof.Proof.KernelIdeal.Arrays
public import proofs.«01_k».proof.Proof.KernelIdeal.Frame
public import proofs.«01_k».proof.Proof.ReferenceIdeal.Arrays

@[expose] public section

set_option maxRecDepth 16384

/-! The kernel and the reference end with equal results. -/

noncomputable section

namespace Cert.Agreement

open Idealize.ShloMosaic Idealize.ShloMosaic.TcCoe Cert.Formula

section Entry

variable (m : (ℓ : Loc Cert.KernelIdeal.nD Cert.KernelIdeal.τ Cert.KernelIdeal.sig) → Buf (Elt Ideal) ℓ) (c : Dev Cert.KernelIdeal.nD)

/-- The kernel's region finds the first argument, its leading axes merged. -/
theorem kernel_x : Cert.KernelIdeal.Gen.V m c Cert.KernelIdeal.main_v0
    = shapeCast ⟨2, ![12288, 4608]⟩ (m ((c : Thread Cert.KernelIdeal.nD Cert.KernelIdeal.τ).loc Cert.KernelIdeal.main_arg0)) Cert.KernelIdeal.Gen.shapeCasts_S3x4096x4608_S12288x4608 := by
  entry_read
  rfl

/-- The kernel's region finds the third argument as one row. -/
theorem kernel_s : Cert.KernelIdeal.Gen.V m c Cert.KernelIdeal.main_v1
    = shapeCast ⟨2, ![1, 9216]⟩ (m ((c : Thread Cert.KernelIdeal.nD Cert.KernelIdeal.τ).loc Cert.KernelIdeal.main_arg2)) Cert.KernelIdeal.Gen.shapeCasts_S9216_S1x9216 := by
  entry_read
  rfl

end Entry

section Entry

variable (m : (ℓ : Loc Cert.ReferenceIdeal.nD Cert.ReferenceIdeal.τ Cert.ReferenceIdeal.sig) → Buf (Elt Ideal) ℓ) (c : Dev Cert.ReferenceIdeal.nD)

/-- The reference's region finds the first argument, its leading axes merged. -/
theorem reference_x : Cert.ReferenceIdeal.Gen.V m c Cert.ReferenceIdeal.main_v0
    = shapeCast ⟨2, ![12288, 4608]⟩ (m ((c : Thread Cert.ReferenceIdeal.nD Cert.ReferenceIdeal.τ).loc Cert.ReferenceIdeal.main_arg0)) Cert.ReferenceIdeal.Gen.shapeCasts_S3x4096x4608_S12288x4608 := by
  entry_read
  rfl

/-- The reference's region finds the third argument as one row. -/
theorem reference_s : Cert.ReferenceIdeal.Gen.V m c Cert.ReferenceIdeal.main_v1
    = shapeCast ⟨2, ![1, 9216]⟩ (m ((c : Thread Cert.ReferenceIdeal.nD Cert.ReferenceIdeal.τ).loc Cert.ReferenceIdeal.main_arg2)) Cert.ReferenceIdeal.Gen.shapeCasts_S9216_S1x9216 := by
  entry_read
  rfl

end Entry

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal first arguments the two regions find the same input. -/
theorem x_eq (c : Dev Cert.KernelIdeal.nD)
    (h : m' ((c : Thread Cert.ReferenceIdeal.nD Cert.ReferenceIdeal.τ).loc Cert.ReferenceIdeal.main_arg0)
      = m ((c : Thread Cert.KernelIdeal.nD Cert.KernelIdeal.τ).loc Cert.KernelIdeal.main_arg0)) :
    Cert.ReferenceIdeal.Hand.xOf m' c = Cert.KernelIdeal.Hand.xOf m c := by
  funext r k
  unfold Cert.ReferenceIdeal.Hand.xOf Cert.KernelIdeal.Hand.xOf
  rw [kernel_x, reference_x, h]

/-- From equal second arguments the two regions find the same weights. -/
theorem w_eq (c : Dev Cert.KernelIdeal.nD)
    (h : m' ((c : Thread Cert.ReferenceIdeal.nD Cert.ReferenceIdeal.τ).loc Cert.ReferenceIdeal.main_arg1)
      = m ((c : Thread Cert.KernelIdeal.nD Cert.KernelIdeal.τ).loc Cert.KernelIdeal.main_arg1)) :
    Cert.ReferenceIdeal.Hand.wOf m' c = Cert.KernelIdeal.Hand.wOf m c := by
  funext k n
  unfold Cert.ReferenceIdeal.Hand.wOf Cert.KernelIdeal.Hand.wOf
  rw [Cert.KernelIdeal.Gen.V_main_arg1, Cert.ReferenceIdeal.Gen.V_main_arg1, h]

/-- From equal third arguments the two regions find the same scales of the weights. -/
theorem s_eq (c : Dev Cert.KernelIdeal.nD)
    (h : m' ((c : Thread Cert.ReferenceIdeal.nD Cert.ReferenceIdeal.τ).loc Cert.ReferenceIdeal.main_arg2)
      = m ((c : Thread Cert.KernelIdeal.nD Cert.KernelIdeal.τ).loc Cert.KernelIdeal.main_arg2)) :
    Cert.ReferenceIdeal.Hand.sOf m' c = Cert.KernelIdeal.Hand.sOf m c := by
  funext n
  unfold Cert.ReferenceIdeal.Hand.sOf Cert.KernelIdeal.Hand.sOf
  rw [kernel_s, reference_s, h]

/-- Every execution of the kernel ends with the four results at the formula's values, and its arguments as they were. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v2_0)
            = (fun i => hScale (Cert.KernelIdeal.Hand.xOf m c) (Cert.KernelIdeal.Hand.wOf m c) (Cert.KernelIdeal.Hand.sOf m c) (i 0))
        ∧ r.2.mem ((c.tc : Thread Cert.KernelIdeal.nD Cert.KernelIdeal.τ).loc Cert.KernelIdeal.main_v2_1)
            = (fun i => hCode (Cert.KernelIdeal.Hand.xOf m c) (Cert.KernelIdeal.Hand.wOf m c) (Cert.KernelIdeal.Hand.sOf m c) (i 0) (i 1))
        ∧ r.2.mem ((c.tc : Thread Cert.KernelIdeal.nD Cert.KernelIdeal.τ).loc Cert.KernelIdeal.main_v2_2)
            = (fun i => xCode (Cert.KernelIdeal.Hand.xOf m c) (i 0) (i 1))
        ∧ r.2.mem ((c.tc : Thread Cert.KernelIdeal.nD Cert.KernelIdeal.τ).loc Cert.KernelIdeal.main_v2_3)
            = (fun i => xScale (Cert.KernelIdeal.Hand.xOf m c) (i 0))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run _ _ _).mono (fun r h c => ?_)
    (θ_run_and (Cert.KernelIdeal.Hand.run_main m g) (Cert.KernelIdeal.Hand.frame m g))
  exact ⟨((h.1 c).1 5).trans (Cert.KernelIdeal.Hand.array5 m c), ((h.1 c).1 6).trans (Cert.KernelIdeal.Hand.array6 m c),
    ((h.1 c).1 7).trans (Cert.KernelIdeal.Hand.array7 m c), ((h.1 c).1 8).trans (Cert.KernelIdeal.Hand.array8 m c), h.2.1 c⟩

/-- The kernel and the reference, from memories agreeing on the arguments, end with equal results and unchanged arguments. -/
theorem algebraic : Cert.algebraic_KernelIdeal_ReferenceIdeal := by
  intro m g m' g' _ hargs
  refine ⟨_, _, _, _, kernel_run m g, (θ_run _ _ _).mono (fun r h c => ?_) (Cert.ReferenceIdeal.Value.run_blocks m' g')⟩
  obtain ⟨h0, h1, h2, h3, hrest⟩ := h c
  obtain ⟨a0, a1, a2⟩ := hargs c
  have ex := x_eq m m' c a0
  have ew := w_eq m m' c a1
  have es := s_eq m m' c a2
  refine ⟨h0.trans ?_, h1.trans ?_, h2.trans ?_, h3.trans ?_, hrest⟩
  · rw [← ex, ← ew, ← es]
    exact Cert.ReferenceIdeal.Hand.array3 m' c
  · rw [← ex, ← ew, ← es]
    exact Cert.ReferenceIdeal.Hand.array4 m' c
  · rw [← ex]
    exact Cert.ReferenceIdeal.Hand.array5 m' c
  · rw [← ex]
    exact Cert.ReferenceIdeal.Hand.array6 m' c

end Cert.Agreement

end
-- ==== Proof.Kernel.Body.lean ====
module

public import proofs.«01_k».proof.Proof.Gen.Kernel.Frame
public import proofs.«01_k».proof.Proof.Gen.Kernel.Skeleton
public import proofs.«01_k».proof.Proof.Buffers

@[expose] public section

set_option maxRecDepth 16384

noncomputable section

namespace Cert.Kernel.Hand

open Cert.Kernel Cert.Kernel.Gen Cert.Buffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the body does at one grid point, from the contents of its operands' buffers: at the first tile of a row block, at
a tile in the middle, and at the last. -/

/-- The running row maximum after one more tile: the larger of what it was and the tile's own row maximum. -/
def stepMax (prev : Vec F S512x1 .f32) (xc : Vec F S512x4608 .fp8e4m3) (xs : Vec F S512x1 .f32) (wg wu : Vec F S4608x512 .fp8e4m3)
    (sg su : Vec F S1x512 .f32) : Vec F S512x1 .f32 :=
  k0_pay1 prev (k0_pay16 xc xs wg wu sg su)

/-- The codes of a block of rows of `x`. -/
def codesOf (x : Vec F S512x4608 .bf16) : Vec F S512x4608 .fp8e4m3 := k0_pay12 (k0_pay3 x) (k0_pay7 x)

/-- The activation buffer's contents `h` with the tile of grid point `i` put into its columns. -/
def withTile (i : grid0.Coords) (h : Vec F S512x4608 .f32) (tile : Vec F S512x512 .f32) : Vec F S512x4608 .f32 :=
  putCols (k0_off1 i 1) h tile

variable (c : Dev nD) (i : grid0.Coords)
  (arg2 : Memref sig .tc .vmem S512x4608 .bf16) (harg2 : arg2.IsWhole) (arg3 : Memref sig .tc .vmem S4608x512 .fp8e4m3) (harg3 : arg3.IsWhole)
  (arg4 : Memref sig .tc .vmem S4608x512 .fp8e4m3) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1 .f32) (harg7 : arg7.IsWhole)
  (arg8 : Memref sig .tc .vmem S512x4608 .fp8e4m3) (harg8 : arg8.IsWhole) (arg9 : Memref sig .tc .vmem S512x4608 .fp8e4m3) (harg9 : arg9.IsWhole)
  (arg10 : Memref sig .tc .vmem S512x1 .f32) (harg10 : arg10.IsWhole) (arg11 : Memref sig .tc .vmem S512x4608 .f32) (harg11 : arg11.IsWhole)
  (arg12 : Memref sig .tc .vmem S512x1 .f32) (harg12 : arg12.IsWhole)
  (x0 : Vec F S512x4608 .bf16) (x1 : Vec F S4608x512 .fp8e4m3) (x2 : Vec F S4608x512 .fp8e4m3) (x3 : Vec F S1x512 .f32) (x4 : Vec F S1x512 .f32)
  (x5 : Vec F S512x1 .f32) (x6 : Vec F S512x4608 .fp8e4m3) (xc : Vec F S512x4608 .fp8e4m3) (xs : Vec F S512x1 .f32)
  (h : Vec F S512x4608 .f32) (a : Vec F S512x1 .f32)
  (E : Set ℕ) (K : PUnit.{1} → sProp (MT nD τ sig Unit (Elt F) ℕ (UR sig nD τ) ℕ))

set_option maxHeartbeats 1200000 in
/-- At the first tile of a row block the body quantises the rows of `x` it finds in `arg2`, leaves their codes and scales, puts the tile
    into its columns of the activation buffer and starts the running row maximum from zero. -/
theorem run_first (hc0 : k0_cond1 i = 1#1) (hc1 : ¬k0_cond2 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xc ∗ owns (c : Thread nD τ) arg10 fullShare xs ∗ owns (c : Thread nD τ) arg11 fullShare h ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (codesOf x0) ∗ owns (c : Thread nD τ) arg10 fullShare (k0_pay6 x0) ∗ owns (c : Thread nD τ) arg11 fullShare (withTile i h (k0_pay15 (codesOf x0) (k0_pay6 x0) x1 x2 x3 x4)) ∗ owns (c : Thread nD τ) arg12 fullShare (stepMax k0_pay13 (codesOf x0) (k0_pay6 x0) x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12
  sl_exec (disch := first | sl_exact hc0 | sl_exact hc1)
  sl_step
  have r2 := (readAt_whole arg2.view (harg2.unread x0) zero2 inb_S512x4608_S512x4608_0_0).trans (harg2.read_unread x0)
  have r3 := (readAt_whole arg3.view (harg3.unread x1) zero2 inb_S4608x512_S4608x512_0_0).trans (harg3.read_unread x1)
  have r4 := (readAt_whole arg4.view (harg4.unread x2) zero2 inb_S4608x512_S4608x512_0_0).trans (harg4.read_unread x2)
  have r5 := (readAt_whole arg5.view (harg5.unread x3) zero2 inb_S1x512_S1x512_0_0).trans (harg5.read_unread x3)
  have r6 := (readAt_whole arg6.view (harg6.unread x4) zero2 inb_S1x512_S1x512_0_0).trans (harg6.read_unread x4)
  have w9 := View.readCov_unit_zero (Val := Elt F) arg9.view zero2 inb_S512x4608_S512x4608_0_0 (codesOf x0)
  have w10 := View.readCov_unit_zero (Val := Elt F) arg10.view zero2 inb_S512x1_S512x1_0_0 (k0_pay6 x0)
  have w12 := View.readCov_unit_zero (Val := Elt F) arg12.view zero2 inb_S512x1_S512x1_0_0 (k0_pay13 (F := F))
  have e9 : run_first.sl.v3 c arg2 harg2 arg9 x0 = codesOf x0 := by
    delta run_first.sl.v3 run_first.sl.H9_1 run_first.sl.r run_first.sl.r_2; simp only [r2]; exact w9
  have e10 : run_first.sl.v5 c arg2 harg2 arg10 x0 = k0_pay6 x0 := by
    delta run_first.sl.v5 run_first.sl.H10_1 run_first.sl.r_1; simp only [r2]; exact w10
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; delta run_first.sl.H9_1 run_first.sl.r run_first.sl.r_2; simp only [r2]; exact read_store_whole arg9.view _ zero2 _ _ _
  isplitl [H10]
  · iexists _; isplitr
    swap; · iexact H10
    ipureintro; delta run_first.sl.H10_1 run_first.sl.r_1; simp only [r2]; exact read_store_whole arg10.view _ zero2 _ _ _
  isplitl [H11]
  · iexists _; isplitr
    swap; · iexact H11
    ipureintro; simp only [e9, e10, r3, r4, r5, r6]
    refine (read_store_cols arg11.view _ rfl rfl _ _).trans ?_
    rw [hf11]; rfl
  iexists _; isplitr
  swap; · iexact H12
  ipureintro; delta run_first.sl.r_3 run_first.sl.v31 run_first.sl.H12_1; simp only [e9, e10, r3, r4, r5, r6]
  refine (read_store_whole arg12.view _ zero2 _ _ _).trans ?_
  exact congrArg (k0_pay1 · _) w12

set_option maxHeartbeats 1200000 in
/-- At a tile in the middle of a row block the body puts the tile into its columns of the activation buffer and updates the
    running row maximum; the outputs' buffers stay as they are. -/
theorem run_mid (hc0 : ¬k0_cond1 i = 1#1) (hc1 : ¬k0_cond2 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xc ∗ owns (c : Thread nD τ) arg10 fullShare xs ∗ owns (c : Thread nD τ) arg11 fullShare h ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xc ∗ owns (c : Thread nD τ) arg10 fullShare xs ∗ owns (c : Thread nD τ) arg11 fullShare (withTile i h (k0_pay15 xc xs x1 x2 x3 x4)) ∗ owns (c : Thread nD τ) arg12 fullShare (stepMax a xc xs x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12
  sl_exec (disch := first | sl_exact hc0 | sl_exact hc1)
  sl_step
  have r3 := (readAt_whole arg3.view (harg3.unread x1) zero2 inb_S4608x512_S4608x512_0_0).trans (harg3.read_unread x1)
  have r4 := (readAt_whole arg4.view (harg4.unread x2) zero2 inb_S4608x512_S4608x512_0_0).trans (harg4.read_unread x2)
  have r5 := (readAt_whole arg5.view (harg5.unread x3) zero2 inb_S1x512_S1x512_0_0).trans (harg5.read_unread x3)
  have r6 := (readAt_whole arg6.view (harg6.unread x4) zero2 inb_S1x512_S1x512_0_0).trans (harg6.read_unread x4)
  have r9 := (readAt_whole arg9.view (harg9.unread xc) zero2 inb_S512x4608_S512x4608_0_0).trans (harg9.read_unread xc)
  have r10 := (readAt_whole arg10.view (harg10.unread xs) zero2 inb_S512x1_S512x1_0_0).trans (harg10.read_unread xs)
  have r12 := (readAt_whole arg12.view (harg12.unread a) zero2 inb_S512x1_S512x1_0_0).trans (harg12.read_unread a)
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; simp only [r3, r4, r5, r6, r9, r10]
    refine (read_store_cols arg11.view _ rfl rfl _ _).trans ?_
    rw [hf11]; rfl
  iexists _; isplitr
  swap; · iexact H12
  ipureintro; delta run_mid.sl.r run_mid.sl.r_1; simp only [r3, r4, r5, r6, r9, r10, r12]
  exact read_store_whole arg12.view _ zero2 _ _ _

set_option maxHeartbeats 1200000 in
/-- At the last tile of a row block the body also quantises the activation buffer by the final row maximum, and leaves the codes
    and the scales. -/
theorem run_last (hc0 : ¬k0_cond1 i = 1#1) (hc1 : k0_cond2 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xc ∗ owns (c : Thread nD τ) arg10 fullShare xs ∗ owns (c : Thread nD τ) arg11 fullShare h ∗ owns (c : Thread nD τ) arg12 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay10 (stepMax a xc xs x1 x2 x3 x4)) ∗ owns (c : Thread nD τ) arg8 fullShare (k0_pay2 (k0_pay11 (stepMax a xc xs x1 x2 x3 x4)) (withTile i h (k0_pay15 xc xs x1 x2 x3 x4))) ∗ owns (c : Thread nD τ) arg9 fullShare xc ∗ owns (c : Thread nD τ) arg10 fullShare xs ∗ owns (c : Thread nD τ) arg11 fullShare (withTile i h (k0_pay15 xc xs x1 x2 x3 x4)) ∗ owns (c : Thread nD τ) arg12 fullShare (stepMax a xc xs x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12
  sl_exec (disch := first | sl_exact hc0 | sl_exact hc1)
  sl_step
  have r3 := (readAt_whole arg3.view (harg3.unread x1) zero2 inb_S4608x512_S4608x512_0_0).trans (harg3.read_unread x1)
  have r4 := (readAt_whole arg4.view (harg4.unread x2) zero2 inb_S4608x512_S4608x512_0_0).trans (harg4.read_unread x2)
  have r5 := (readAt_whole arg5.view (harg5.unread x3) zero2 inb_S1x512_S1x512_0_0).trans (harg5.read_unread x3)
  have r6 := (readAt_whole arg6.view (harg6.unread x4) zero2 inb_S1x512_S1x512_0_0).trans (harg6.read_unread x4)
  have r9 := (readAt_whole arg9.view (harg9.unread xc) zero2 inb_S512x4608_S512x4608_0_0).trans (harg9.read_unread xc)
  have r10 := (readAt_whole arg10.view (harg10.unread xs) zero2 inb_S512x1_S512x1_0_0).trans (harg10.read_unread xs)
  have r12 := (readAt_whole arg12.view (harg12.unread a) zero2 inb_S512x1_S512x1_0_0).trans (harg12.read_unread a)
  have s12 := fun w => View.readCov_unit_zero (Val := Elt F) arg12.view zero2 inb_S512x1_S512x1_0_0 w
  have e12 : run_last.sl.v42 c arg3 harg3 arg4 harg4 arg5 harg5 arg6 harg6 arg9 harg9 arg10 harg10 arg12 harg12 x1 x2 x3 x4 xc xs a
      = stepMax a xc xs x1 x2 x3 x4 := by
    delta run_last.sl.v42 run_last.sl.H12_1 run_last.sl.r run_last.sl.r_1; simp only [r3, r4, r5, r6, r9, r10, r12]; exact s12 _
  have e11 : arg11.view.read (Elt F) (arg11.view.writes (Elt F) (harg11.unread h)
      (run_last.sl.H11_1 c i arg3 harg3 arg4 harg4 arg5 harg5 arg6 harg6 arg9 harg9 arg10 harg10 x1 x2 x3 x4 xc xs))
      = withTile i h (k0_pay15 xc xs x1 x2 x3 x4) := by
    delta run_last.sl.H11_1; simp only [r3, r4, r5, r6, r9, r10]
    refine (read_store_cols arg11.view _ rfl rfl _ _).trans ?_
    rw [hf11]; rfl
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; simp only [e12]; exact read_store_whole arg7.view _ zero2 _ _ _
  isplitl [H8]
  · iexists _; isplitr
    swap; · iexact H8
    ipureintro; delta run_last.sl.r_2 run_last.sl.v82; simp only [e12]
    refine (read_store_whole arg8.view _ zero2 _ _ _).trans ?_
    exact congrArg (k0_pay2 _) ((readAt_whole arg11.view _ zero2 _).trans e11)
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; exact e11
  iexists _; isplitr
  swap; · iexact H12
  ipureintro; delta run_last.sl.H12_1 run_last.sl.r run_last.sl.r_1; simp only [r3, r4, r5, r6, r9, r10, r12]
  exact read_store_whole arg12.view _ zero2 _ _ _

end Cert.Kernel.Hand

end
-- ==== Proof.Kernel.Contents.lean ====
module

public import proofs.«01_k».proof.Proof.Kernel.Body
public import Idealize.ShloMosaic.Lib.Pipeline.Value
public import Idealize.ShloMosaic.Lib.ValueIdx

@[expose] public section

set_option maxRecDepth 16384

noncomputable section

namespace Cert.Kernel.Hand

open Cert.Kernel Cert.Kernel.Gen Cert.Buffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the buffers hold after each grid point, as functions of the arrays the region finds. Point `9 i + j` works on row block
`i` and column tile `j`. -/

/-- There are 216 grid points. -/
theorem lt_216 (t : Fin cfg0.N) : t.val < 216 := lt_of_lt_of_eq t.isLt (show cfg0.N = 216 from N_0)

/-- The grid coordinates of a point. -/
theorem coords0 (t : Fin cfg0.N) : (grid0.coords t 0).val = t.val / 9 % 24 := Pipeline.Grid.coords_val t 0 (by decide) rfl
theorem coords1 (t : Fin cfg0.N) : (grid0.coords t 1).val = t.val / 1 % 9 := Pipeline.Grid.coords_val t 1 (by decide) rfl

/-- The body's first condition holds at the first tile of a row block. -/
theorem cond1_iff (t : Fin cfg0.N) : k0_cond1 (grid0.coords t) = 1#1 ↔ t.val % 9 = 0 := by
  have ht := lt_216 t
  have e1 := coords1 t
  simp only [k0_cond1, e1]
  word_cmp

/-- The body's second condition holds at the last tile of a row block. -/
theorem cond2_iff (t : Fin cfg0.N) : k0_cond2 (grid0.coords t) = 1#1 ↔ t.val % 9 = 8 := by
  have ht := lt_216 t
  have e1 := coords1 t
  simp only [k0_cond2, e1]
  word_cmp

/-- The column at which a point's tile begins. -/
theorem off_tile (t : Fin cfg0.N) : k0_off1 (grid0.coords t) 1 = 512 * (t.val % 9) := by
  have key : ∀ j : Fin 9, (Scalar.indexCast (Scalar.muli (BitVec.ofNat 32 j.val) 512#32)).toNat = 512 * j.val := by decide
  have e1 := coords1 t
  have h := key ⟨t.val % 9, Nat.mod_lt _ (by decide)⟩
  rw [Nat.div_one] at e1
  have : k0_off1 (grid0.coords t) 1 = (Scalar.indexCast (Scalar.muli (BitVec.ofNat 32 (grid0.coords t 1).val) 512#32)).toNat := rfl
  rw [this, e1]; exact h

/-- The first point of a point's row block. -/
def rowStart (t : Fin cfg0.N) : Fin cfg0.N := ⟨9 * (t.val / 9), lt_of_le_of_lt (Nat.mul_div_le _ _) t.isLt⟩

/-- The point before. -/
abbrev prev (t : Fin cfg0.N) : Fin cfg0.N := ⟨t.val - 1, Nat.lt_of_le_of_lt (Nat.sub_le _ _) t.isLt⟩

theorem rowStart_first (t : Fin cfg0.N) (h : t.val % 9 = 0) : rowStart t = t := Fin.ext (by show 9 * (t.val / 9) = t.val; omega)
theorem rowStart_prev (t : Fin cfg0.N) (h : ¬t.val % 9 = 0) : rowStart (prev t) = rowStart t :=
  Fin.ext (by show 9 * ((t.val - 1) / 9) = 9 * (t.val / 9); omega)

/-- The codes of the row block of `x` a point works on. -/
def xCodes (c : Dev nD) (t : Fin cfg0.N) : Vec F S512x4608 .fp8e4m3 := codesOf (iblk m c 0 (rowStart t))
/-- The scales of the row block of `x` a point works on. -/
def xScales (c : Dev nD) (t : Fin cfg0.N) : Vec F S512x1 .f32 := k0_pay6 (iblk m c 0 (rowStart t))
/-- The activation tile a point computes. -/
def tile (c : Dev nD) (t : Fin cfg0.N) : Vec F S512x512 .f32 :=
  k0_pay15 (xCodes m c t) (xScales m c t) (iblk m c 1 t) (iblk m c 2 t) (iblk m c 3 t) (iblk m c 4 t)
/-- A running row maximum after a point's tile. -/
def stepAt (c : Dev nD) (t : Fin cfg0.N) (p : Vec F S512x1 .f32) : Vec F S512x1 .f32 :=
  stepMax p (xCodes m c t) (xScales m c t) (iblk m c 1 t) (iblk m c 2 t) (iblk m c 3 t) (iblk m c 4 t)

/-- The running row maximum after point `n`: started from zero at the first tile of each row block. -/
def maxAt (c : Dev nD) : (n : ℕ) → n < cfg0.N → Vec F S512x1 .f32
  | 0, h => stepAt m c ⟨0, h⟩ k0_pay13
  | n + 1, h => stepAt m c ⟨n + 1, h⟩ (if (n + 1) % 9 = 0 then k0_pay13 else maxAt c n (Nat.lt_of_succ_lt h))

theorem maxAt_first (c : Dev nD) (t : Fin cfg0.N) (h : t.val % 9 = 0) : maxAt m c t.val t.isLt = stepAt m c t k0_pay13 := by
  obtain ⟨n, hn⟩ := t
  cases n with
  | zero => rfl
  | succ n => exact congrArg (stepAt m c _) (if_pos h)

theorem maxAt_next (c : Dev nD) (t : Fin cfg0.N) (h : ¬t.val % 9 = 0) :
    maxAt m c t.val t.isLt = stepAt m c t (maxAt m c (prev t).val (prev t).isLt) := by
  obtain ⟨n, hn⟩ := t
  cases n with
  | zero => exact absurd (Nat.zero_mod 9) h
  | succ n => exact congrArg (stepAt m c _) (if_neg h)

/-- The point of a row block that computes the tile a column lies in. -/
def tilePoint (t : Fin cfg0.N) (col : Fin 4608) : Fin cfg0.N :=
  ⟨9 * (t.val / 9) + col.val / 512, by
    have := lt_216 t; have := col.isLt; show _ < grid0.N; rw [N_0]; omega⟩

/-- The activations of a point's row block, every column at what its own tile's point computes. -/
def activations (c : Dev nD) (t : Fin cfg0.N) : Vec F S512x4608 .f32 := fun y =>
  tile m c (tilePoint t (y 1)) (ValueIdx.ix2 (y 0) ⟨(y 1).val % 512, Nat.mod_lt _ (by decide)⟩)

/-- Contents of the activation buffer in which the tiles up to a point's are in their places. -/
def Filled (c : Dev nD) (t : Fin cfg0.N) (d : Vec F S512x4608 .f32) : Prop :=
  ∀ y : S512x4608.Idx, (y 1).val < 512 * (t.val % 9 + 1) → d y = activations m c t y

theorem activations_prev (c : Dev nD) (t : Fin cfg0.N) (h : ¬t.val % 9 = 0) : activations m c (prev t) = activations m c t := by
  funext y
  have : tilePoint (prev t) (y 1) = tilePoint t (y 1) := Fin.ext (by
    show 9 * ((t.val - 1) / 9) + _ = 9 * (t.val / 9) + _
    congr 2; omega)
  unfold activations; rw [this]

/-- A column of the tile just put in. -/
theorem withTile_in (c : Dev nD) (t : Fin cfg0.N) (d : Vec F S512x4608 .f32) (y : S512x4608.Idx)
    (h0 : 512 * (t.val % 9) ≤ (y 1).val) (h1 : (y 1).val < 512 * (t.val % 9 + 1)) :
    withTile (grid0.coords t) d (tile m c t) y = activations m c t y := by
  have hy : (y 1).val / 512 = t.val % 9 := by omega
  have hp : tilePoint t (y 1) = t := Fin.ext (by show 9 * (t.val / 9) + (y 1).val / 512 = t.val; omega)
  unfold withTile activations
  rw [off_tile, hp]
  have hc : 512 * (t.val % 9) ≤ (y 1).val ∧ (y 1).val < 512 * (t.val % 9) + 512 := ⟨h0, by omega⟩
  show dite _ _ _ = _
  rw [dif_pos hc]
  congr 2
  exact Fin.ext (show (y 1).val - 512 * (t.val % 9) = (y 1).val % 512 by omega)

/-- A column of another tile. -/
theorem withTile_out (c : Dev nD) (t : Fin cfg0.N) (d : Vec F S512x4608 .f32) (y : S512x4608.Idx)
    (h : (y 1).val < 512 * (t.val % 9)) : withTile (grid0.coords t) d (tile m c t) y = d y := by
  unfold withTile
  rw [off_tile]
  show dite _ _ _ = _
  rw [dif_neg (by omega)]

theorem filled_first (c : Dev nD) (t : Fin cfg0.N) (h : t.val % 9 = 0) (d : Vec F S512x4608 .f32) :
    Filled m c t (withTile (grid0.coords t) d (tile m c t)) := fun y hy => withTile_in m c t d y (by omega) hy

theorem filled_next (c : Dev nD) (t : Fin cfg0.N) (h : ¬t.val % 9 = 0) (d : Vec F S512x4608 .f32) (hd : Filled m c (prev t) d) :
    Filled m c t (withTile (grid0.coords t) d (tile m c t)) := fun y hy => by
  by_cases h0 : 512 * (t.val % 9) ≤ (y 1).val
  · exact withTile_in m c t d y h0 hy
  · rw [withTile_out m c t d y (by omega), hd y (by show _ < 512 * ((t.val - 1) % 9 + 1); omega), activations_prev m c t h]

theorem filled_last (c : Dev nD) (t : Fin cfg0.N) (h : t.val % 9 = 8) (d : Vec F S512x4608 .f32) (hd : Filled m c t d) :
    d = activations m c t := funext fun y => hd y (by have : (y 1).val < 4608 := (y 1).isLt; omega)

/-! ## The pipeline's proof data -/

/-- The scratch operands: the activation buffer and the running row maximum. -/
abbrev scM0_0 : Memref sig .tc .vmem S512x4608 .f32 := Memref.whole cc0_scratch0
abbrev scM0_1 : Memref sig .tc .vmem S512x1 .f32 := Memref.whole cc0_scratch1

/-- The region's entry invariant, the scratch operands as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Between points: the activation buffer has the tiles done so far in their places, and the running maximum is theirs. -/
def PhiS (c : Dev nD) : (n : ℕ) → n ≤ cfg0.N → sProp 𝕄
  | 0, _ => Pipeline.ΦA spec0 c
  | n + 1, hn => iprop(iprop((∃ d : {d : Vec F S512x4608 .f32 // Filled m c ⟨n, hn⟩ d}, owns (c : Thread nD τ) scM0_0 fullShare d.1)
      ∗ owns (c : Thread nD τ) scM0_1 fullShare (maxAt m c n hn)) ∗ (∃ r, prngReg c r))

theorem PhiS_succ (c : Dev nD) (n : ℕ) (hn : n < cfg0.N) :
    PhiS m c (n + 1) hn = iprop(iprop((∃ d : {d : Vec F S512x4608 .f32 // Filled m c ⟨n, hn⟩ d}, owns (c : Thread nD τ) scM0_0 fullShare d.1)
      ∗ owns (c : Thread nD τ) scM0_1 fullShare (maxAt m c n hn)) ∗ (∃ r, prngReg c r)) := rfl

theorem PhiS_pos (c : Dev nD) (t : Fin cfg0.N) (hz : t.val ≠ 0) :
    PhiS m c t.val (Nat.le_of_lt t.isLt) = iprop(iprop((∃ d : {d : Vec F S512x4608 .f32 // Filled m c (prev t) d}, owns (c : Thread nD τ) scM0_0 fullShare d.1)
      ∗ owns (c : Thread nD τ) scM0_1 fullShare (maxAt m c (prev t).val (prev t).isLt)) ∗ (∃ r, prngReg c r)) := by
  obtain ⟨n, hn⟩ := t
  cases n with
  | zero => exact absurd rfl hz
  | succ n => rfl

/-- At any time the invariant gives the scratch operands at some contents. -/
theorem PhiS_any (c : Dev nD) (n : ℕ) (hn : n ≤ cfg0.N) : PhiS m c n hn ⊢ Pipeline.ΦA spec0 c := by
  cases n with
  | zero => exact Idealize.SL.BI.Entails.refl _
  | succ n =>
    rw [PhiS_succ, PhiA0_eq]
    iintro ⟨⟨⟨%d, H0⟩, H1⟩, Hg⟩
    isplitl [H0 H1]
    · isplitl [H0]
      · iexists _; iexact H0
      iexists _; iexact H1
    iexact Hg

/-- The proof data of the pipeline on core `c`: the arrays as the region finds them, each input's buffer at its block, the outputs'
    at the codes and scales of the row block's activations and of its rows of `x`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay10 (maxAt m c t.val t.isLt)
    | ⟨6, _⟩ => k0_pay2 (k0_pay11 (maxAt m c t.val t.isLt)) (activations m c t)
    | ⟨7, _⟩ => xCodes m c t
    | ⟨8, _⟩ => xScales m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay10 (maxAt m c t.val t.isLt) := by dsimp only [dats]
theorem after0_6 (c : Dev nD) (t : Fin cfg0.N) :
    (dats m 0 c).after 6 t = k0_pay2 (k0_pay11 (maxAt m c t.val t.isLt)) (activations m c t) := by dsimp only [dats]
theorem after0_7 (c : Dev nD) (t : Fin cfg0.N) : (dats m 0 c).after 7 t = xCodes m c t := by dsimp only [dats]
theorem after0_8 (c : Dev nD) (t : Fin cfg0.N) : (dats m 0 c).after 8 t = xScales m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Where an output's buffer is not stored into. -/
theorem idle_h (t : Fin cfg0.N) (h : ¬t.val % 9 = 8) : cfg0.idle 5 (grid0.coords t) = true ∧ cfg0.idle 6 (grid0.coords t) = true := by
  have : (!(k0_cond2 (grid0.coords t) == 1#1)) = true := by simpa [cond2_iff] using h
  exact ⟨this, this⟩
theorem live_h (t : Fin cfg0.N) (h : t.val % 9 = 8) : cfg0.idle 5 (grid0.coords t) = false ∧ cfg0.idle 6 (grid0.coords t) = false := by
  have : (!(k0_cond2 (grid0.coords t) == 1#1)) = false := by simpa [cond2_iff] using h
  exact ⟨this, this⟩
theorem idle_x (t : Fin cfg0.N) (h : ¬t.val % 9 = 0) : cfg0.idle 7 (grid0.coords t) = true ∧ cfg0.idle 8 (grid0.coords t) = true := by
  have : (!(k0_cond1 (grid0.coords t) == 1#1)) = true := by simpa [cond1_iff] using h
  exact ⟨this, this⟩
theorem live_x (t : Fin cfg0.N) (h : t.val % 9 = 0) : cfg0.idle 7 (grid0.coords t) = false ∧ cfg0.idle 8 (grid0.coords t) = false := by
  have : (!(k0_cond1 (grid0.coords t) == 1#1)) = false := by simpa [cond1_iff] using h
  exact ⟨this, this⟩

theorem noFlush (t : Fin cfg0.N) (h : ¬t.val % 9 = 8) : (cfg0.win 5).flush t = false ∧ (cfg0.win 6).flush t = false
    ∧ (cfg0.win 7).flush t = false ∧ (cfg0.win 8).flush t = false :=
  ⟨Bool.eq_false_iff.mpr fun e => h ((flush0_5 t).mp e), Bool.eq_false_iff.mpr fun e => h ((flush0_6 t).mp e),
    Bool.eq_false_iff.mpr fun e => h ((flush0_7 t).mp e), Bool.eq_false_iff.mpr fun e => h ((flush0_8 t).mp e)⟩

/-- After the first tile of a row block the codes of `x` are still in their buffer. -/
theorem before0_7 (c : Dev nD) (n : ℕ) (hn : n < cfg0.N) (h : ¬n % 9 = 0) (d) : (dats m 0 c).before 7 ⟨n, hn⟩ d = xCodes m c ⟨n, hn⟩ := by
  induction n with
  | zero => exact absurd (Nat.zero_mod 9) h
  | succ n ih =>
    have hn' : n < cfg0.N := Nat.lt_of_succ_lt hn
    have hx : xCodes m c ⟨n, hn'⟩ = xCodes m c ⟨n + 1, hn⟩ :=
      congrArg (fun u => codesOf (iblk m c 0 u)) (rowStart_prev ⟨n + 1, hn⟩ h)
    rw [(dats m 0 c).before_of_pos 7 ⟨n + 1, hn⟩ (Nat.succ_ne_zero n) rfl]
    have hf : (cfg0.win 7).flush ⟨n, hn'⟩ = false := (noFlush ⟨n, hn'⟩ (by show ¬n % 9 = 8; omega)).2.2.1
    show (if (cfg0.win 7).flush ⟨n, hn'⟩ = true then d else (dats m 0 c).left 7 ⟨n, hn'⟩ d) = _
    rw [hf, if_neg Bool.false_ne_true]
    unfold Dat.left
    by_cases h0 : n % 9 = 0
    · rw [(live_x ⟨n, hn'⟩ h0).1]
      exact hx
    · rw [(idle_x ⟨n, hn'⟩ h0).1]
      exact (ih hn' h0).trans hx

/-- After the first tile of a row block the scales of `x` are still in their buffer. -/
theorem before0_8 (c : Dev nD) (n : ℕ) (hn : n < cfg0.N) (h : ¬n % 9 = 0) (d) : (dats m 0 c).before 8 ⟨n, hn⟩ d = xScales m c ⟨n, hn⟩ := by
  induction n with
  | zero => exact absurd (Nat.zero_mod 9) h
  | succ n ih =>
    have hn' : n < cfg0.N := Nat.lt_of_succ_lt hn
    have hx : xScales m c ⟨n, hn'⟩ = xScales m c ⟨n + 1, hn⟩ :=
      congrArg (fun u => k0_pay6 (iblk m c 0 u)) (rowStart_prev ⟨n + 1, hn⟩ h)
    rw [(dats m 0 c).before_of_pos 8 ⟨n + 1, hn⟩ (Nat.succ_ne_zero n) rfl]
    have hf : (cfg0.win 8).flush ⟨n, hn'⟩ = false := (noFlush ⟨n, hn'⟩ (by show ¬n % 9 = 8; omega)).2.2.2
    show (if (cfg0.win 8).flush ⟨n, hn'⟩ = true then d else (dats m 0 c).left 8 ⟨n, hn'⟩ d) = _
    rw [hf, if_neg Bool.false_ne_true]
    unfold Dat.left
    by_cases h0 : n % 9 = 0
    · rw [(live_x ⟨n, hn'⟩ h0).2]
      exact hx
    · rw [(idle_x ⟨n, hn'⟩ h0).2]
      exact (ih hn' h0).trans hx

end Cert.Kernel.Hand

end
-- ==== Proof.Kernel.Frame.lean ====
module

public import proofs.«01_k».proof.Proof.Kernel.Contents
public import Idealize.ShloMosaic.Lib.Claim

@[expose] public section

set_option maxRecDepth 16384

noncomputable section

namespace Cert.Kernel.Hand

open Cert.Kernel Cert.Kernel.Gen Cert.Buffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body's obligation at every grid point, the run of the program, and the frame. -/

/-- What the body is called with at point `t`. -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after0_4]
theorem leaves0_5_live (c : Dev nD) (t : Fin cfg0.N) (h : t.val % 9 = 8) :
    (dats m 0 c).leavesExact 5 t = owns (c : Thread nD τ) (st0_5 t) fullShare (k0_pay10 (maxAt m c t.val t.isLt)) := by
  unfold Dat.leavesExact; rw [(live_h t h).1, after0_5]
theorem leaves0_5_idle (c : Dev nD) (t : Fin cfg0.N) (h : ¬t.val % 9 = 8) (h' : ¬t.val % 9 = 8) :
    (dats m 0 c).leavesExact 5 t = iprop(∃ d, owns (c : Thread nD τ) (st0_5 t) fullShare ((dats m 0 c).before 5 t d)) :=
  Dat.leavesExact_idle (dats m 0 c) 5 t (idle_h t h).1 (noFlush t h').1
theorem leaves0_6_live (c : Dev nD) (t : Fin cfg0.N) (h : t.val % 9 = 8) :
    (dats m 0 c).leavesExact 6 t = owns (c : Thread nD τ) (st0_6 t) fullShare (k0_pay2 (k0_pay11 (maxAt m c t.val t.isLt)) (activations m c t)) := by
  unfold Dat.leavesExact; rw [(live_h t h).2, after0_6]
theorem leaves0_6_idle (c : Dev nD) (t : Fin cfg0.N) (h : ¬t.val % 9 = 8) (h' : ¬t.val % 9 = 8) :
    (dats m 0 c).leavesExact 6 t = iprop(∃ d, owns (c : Thread nD τ) (st0_6 t) fullShare ((dats m 0 c).before 6 t d)) :=
  Dat.leavesExact_idle (dats m 0 c) 6 t (idle_h t h).2 (noFlush t h').2.1
theorem leaves0_7_live (c : Dev nD) (t : Fin cfg0.N) (h : t.val % 9 = 0) :
    (dats m 0 c).leavesExact 7 t = owns (c : Thread nD τ) (st0_7 t) fullShare (xCodes m c t) := by
  unfold Dat.leavesExact; rw [(live_x t h).1, after0_7]
theorem leaves0_7_idle (c : Dev nD) (t : Fin cfg0.N) (h : ¬t.val % 9 = 0) (h' : ¬t.val % 9 = 8) :
    (dats m 0 c).leavesExact 7 t = iprop(∃ d, owns (c : Thread nD τ) (st0_7 t) fullShare ((dats m 0 c).before 7 t d)) :=
  Dat.leavesExact_idle (dats m 0 c) 7 t (idle_x t h).1 (noFlush t h').2.2.1
theorem leaves0_7_flush (c : Dev nD) (t : Fin cfg0.N) (h : t.val % 9 = 8) :
    (dats m 0 c).leavesExact 7 t = owns (c : Thread nD τ) (st0_7 t) fullShare (xCodes m c t) := by
  unfold Dat.leavesExact; rw [(idle_x t (by omega)).1, (flush0_7 t).mpr h, after0_7]
theorem leaves0_8_live (c : Dev nD) (t : Fin cfg0.N) (h : t.val % 9 = 0) :
    (dats m 0 c).leavesExact 8 t = owns (c : Thread nD τ) (st0_8 t) fullShare (xScales m c t) := by
  unfold Dat.leavesExact; rw [(live_x t h).2, after0_8]
theorem leaves0_8_idle (c : Dev nD) (t : Fin cfg0.N) (h : ¬t.val % 9 = 0) (h' : ¬t.val % 9 = 8) :
    (dats m 0 c).leavesExact 8 t = iprop(∃ d, owns (c : Thread nD τ) (st0_8 t) fullShare ((dats m 0 c).before 8 t d)) :=
  Dat.leavesExact_idle (dats m 0 c) 8 t (idle_x t h).2 (noFlush t h').2.2.2
theorem leaves0_8_flush (c : Dev nD) (t : Fin cfg0.N) (h : t.val % 9 = 8) :
    (dats m 0 c).leavesExact 8 t = owns (c : Thread nD τ) (st0_8 t) fullShare (xScales m c t) := by
  unfold Dat.leavesExact; rw [(idle_x t (by omega)).2, (flush0_8 t).mpr h, after0_8]
set_option maxHeartbeats 4000000 in
/-- The body at the first tile of a row block. -/
theorem sound_first (c : Dev nD) (t : Fin cfg0.N) (h0 : t.val % 9 = 0) :
    bodyPre m c t ⊢ wp frame (wpE (defs₀ (F := F)) Variants.none c none) Set.univ (bodyAt0 t) (fun _ => bodyPost m c t) := by
  have h8 : ¬t.val % 9 = 8 := by omega
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ, PhiS_castSucc]
  rw [leaves0_0, leaves0_1, leaves0_2, leaves0_3, leaves0_4]
  simp only [before0_0, before0_1, before0_2, before0_3, before0_4]
  rw [leaves0_5_idle m c t h8 h8, leaves0_6_idle m c t h8 h8, leaves0_7_live m c t h0, leaves0_8_live m c t h0, maxAt_first m c t h0]
  refine BIBase.Entails.trans (sep_mono_left (PhiS_any m c t.val (Nat.le_of_lt t.isLt))) ?_
  rw [PhiA0_eq]
  have hX : xCodes m c t = codesOf (iblk m c 0 t) := by unfold xCodes; rw [rowStart_first t h0]
  have hS : xScales m c t = k0_pay6 (iblk m c 0 t) := by unfold xScales; rw [rowStart_first t h0]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first c (grid0.coords t) _ _ _ _ _ _ _ _ _ _ _ _ _ _ _ _ _ _ _ _ _ _ _ _ _ _ _ _ _ _ _ _ _ Set.univ _ ((cond1_iff t).mpr h0) (fun h => h8 ((cond2_iff t).mp h)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  rw [← hX, ← hS]
  iintro ⟨H0, H1, H2, H3, H4, H5, H6, H7, H8, HS0, HS1⟩
  isplitl [HS0 HS1 Hg]
  · isplitl [HS0 HS1]
    · isplitl [HS0]
      · iexists ⟨_, filled_first m c t h0 _⟩; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexact H7
  iexact H8

set_option maxHeartbeats 4000000 in
/-- The body at a tile in the middle of a row block. -/
theorem sound_mid (c : Dev nD) (t : Fin cfg0.N) (h0 : ¬t.val % 9 = 0) (h8 : ¬t.val % 9 = 8) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ, PhiS_castSucc]
  rw [leaves0_0, leaves0_1, leaves0_2, leaves0_3, leaves0_4]
  have hz : t.val ≠ 0 := fun e => h0 (by rw [e])
  rw [leaves0_5_idle m c t h8 h8, leaves0_6_idle m c t h8 h8, leaves0_7_idle m c t h0 h8, leaves0_8_idle m c t h0 h8, maxAt_next m c t h0, PhiS_pos m c t hz]
  have b7 := before0_7 m c t.val t.isLt h0
  have b8 := before0_8 m c t.val t.isLt h0
  simp only [Fin.eta] at b7 b8
  simp only [before0_0, before0_1, before0_2, before0_3, before0_4, b7, b8]
  iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_mid c (grid0.coords t) _ _ _ _ _ _ _ _ _ _ _ _ _ _ _ _ _ _ _ _ _ _ _ _ _ _ _ _ _ _ _ _ _ Set.univ _ (fun h => h0 ((cond1_iff t).mp h)) (fun h => h8 ((cond2_iff t).mp h)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists ⟨_, filled_next m c t h0 _ e0.2⟩; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  iexists d8; iexact H8

set_option maxHeartbeats 4000000 in
/-- The body at the last tile of a row block. -/
theorem sound_last (c : Dev nD) (t : Fin cfg0.N) (h8 : t.val % 9 = 8) :
    bodyPre m c t ⊢ wp frame (wpE (defs₀ (F := F)) Variants.none c none) Set.univ (bodyAt0 t) (fun _ => bodyPost m c t) := by
  have h0 : ¬t.val % 9 = 0 := by omega
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ, PhiS_castSucc]
  rw [leaves0_0, leaves0_1, leaves0_2, leaves0_3, leaves0_4]
  have hz : t.val ≠ 0 := fun e => h0 (by rw [e])
  rw [leaves0_5_live m c t h8, leaves0_6_live m c t h8, leaves0_7_flush m c t h8, leaves0_8_flush m c t h8, maxAt_next m c t h0, PhiS_pos m c t hz]
  have b7 := before0_7 m c t.val t.isLt h0
  have b8 := before0_8 m c t.val t.isLt h0
  simp only [Fin.eta] at b7 b8
  simp only [before0_0, before0_1, before0_2, before0_3, before0_4, b7, b8]
  iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hA := filled_last m c t h8 _ (filled_next m c t h0 _ e0.2)
  rw [← hA]
  iapply (run_last c (grid0.coords t) _ _ _ _ _ _ _ _ _ _ _ _ _ _ _ _ _ _ _ _ _ _ _ _ _ _ _ _ _ _ _ _ _ Set.univ _ (fun h => h0 ((cond1_iff t).mp h)) ((cond2_iff t).mpr h8))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists ⟨_, filled_next m c t h0 _ e0.2⟩; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 9 = 0
  · exact sound_first m c t h0
  by_cases h8 : t.val % 9 = 8
  · exact sound_last m c t h8
  · exact sound_mid m c t h0 h8

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

set_option backward.isDefEq.respectTransparency.types false in
/-- Every execution ends with the pipeline's arrays at what the proof data says, every other array as the region found it, and
    every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, leaves the three arguments as they were, and has every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.lean ====
module

public import proofs.«01_k».proof.Proof.Agreement
public import proofs.«01_k».proof.Defs
public import proofs.«01_k».proof.Proof.Kernel.Frame
public import proofs.«01_k».proof.Proof.KernelIdeal.Frame
public import proofs.«01_k».proof.Proof.Gen.ReferenceIdeal.Frame

@[expose] public section

noncomputable section

namespace Cert.Proof

/-- Every claim of the certificate. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial,
    Cert.Agreement.algebraic⟩

end Cert.Proof

end
